-- ==== Defs.lean ====
def Pre_Kernel [hPre_ids_in_table_Kernel : Cert.Pre_ids_in_table_Kernel.Facts] (m : (ℓ : Loc Cert.Kernel.nD Cert.Kernel.τ Cert.Kernel.sig) → Buf (Elt Bits) ℓ) : Prop :=
  ∀ c : Dev Cert.Kernel.nD,
    (Cert.Pre_ids_in_table_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_ids_in_table_Kernel : Cert.Pre_ids_in_table_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_table_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_table_ReferenceIdeal [hPre_ids_in_table_ReferenceIdeal : Cert.Pre_ids_in_table_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_table_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_ids_in_table_Kernel : Cert.Pre_ids_in_table_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_ids_in_table_Kernel : Cert.Pre_ids_in_table_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ids_in_table_ReferenceIdeal [hReferenceIdeal : Cert.ReferenceIdeal.Facts] [hPre_ids_in_table_ReferenceIdeal : Cert.Pre_ids_in_table_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_table_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_table_Kernel : Cert.Pre_ids_in_table_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![8192, 1024]⟩ ⟨2, ![16384, 1024]⟩ (Layout.meshBlock [2, 2, 4] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ids_in_table_Kernel : Cert.Pre_ids_in_table_Kernel.Facts) (hPre_ids_in_table_ReferenceIdeal : Cert.Pre_ids_in_table_ReferenceIdeal.Facts),
    quiescent_Kernel (hKernel := hKernel) (hPre_ids_in_table_Kernel := hPre_ids_in_table_Kernel)
    ∧ quiescent_KernelIdeal (hKernelIdeal := hKernelIdeal) (hPre_ids_in_table_Kernel := hPre_ids_in_table_Kernel)
    ∧ quiescent_ReferenceIdeal (hReferenceIdeal := hReferenceIdeal)
    ∧ quiescent_ReferenceIdeal_pre_ids_in_table_ReferenceIdeal (hReferenceIdeal := hReferenceIdeal) (hPre_ids_in_table_ReferenceIdeal := hPre_ids_in_table_ReferenceIdeal)
    ∧ preserves_Kernel_KernelIdeal
    ∧ algebraic_KernelIdeal_ReferenceIdeal (hKernelIdeal := hKernelIdeal) (hReferenceIdeal := hReferenceIdeal) (hPre_ids_in_table_Kernel := hPre_ids_in_table_Kernel)
-- ==== Pre_ids_in_table_Kernel.lean ====
abbrev S1024 : Shape := ⟨1, ![1024]⟩
abbrev S8192x1024 : Shape := ⟨2, ![8192, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : IVec S1024 32) (main_arg1 : FVec F S8192x1024 .f32) : IVec S_ 1 :=
  let main_c : IVec S_ 32 := constantI S_ 32 0#32
  let main_v0 : IVec S1024 32 := broadcastInDim S1024 ![] bcast_S_S1024 main_c
  let main_v1 : IVec S1024 1 := cmpi .sge main_arg0 main_v0
  let main_c_0 : IVec S_ 32 := constantI S_ 32 16384#32
  let main_v2 : IVec S1024 32 := broadcastInDim S1024 ![] bcast_S_S1024 main_c_0
  let main_v3 : IVec S1024 1 := cmpi .slt main_arg0 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Pre_ids_in_table_ReferenceIdeal.lean ====
abbrev S1024 : Shape := ⟨1, ![1024]⟩
abbrev S16384x1024 : Shape := ⟨2, ![16384, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : IVec S1024 32) (main_arg1 : FVec F S16384x1024 .f32) : IVec S_ 1 :=
  let main_c : IVec S_ 32 := constantI S_ 32 0#32
  let main_v0 : IVec S1024 32 := broadcastInDim S1024 ![] bcast_S_S1024 main_c
  let main_v1 : IVec S1024 1 := cmpi .sge main_arg0 main_v0
  let main_c_0 : IVec S_ 32 := constantI S_ 32 16384#32
  let main_v2 : IVec S1024 32 := broadcastInDim S1024 ![] bcast_S_S1024 main_c_0
  let main_v3 : IVec S1024 1 := cmpi .slt main_arg0 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Kernel.lean ====
abbrev S1024 : Shape := ⟨1, ![1024]⟩
abbrev S8192x1024 : Shape := ⟨2, ![8192, 1024]⟩
abbrev S1024x1024 : Shape := ⟨2, ![1024, 1024]⟩
abbrev S_ : Shape := ⟨0, ![]⟩
abbrev S1 : Shape := ⟨1, ![1]⟩
abbrev S1x1024 : Shape := ⟨2, ![1, 1024]⟩

abbrev nBuf : Space → Nat
  | .hbm => 6
  | .vmem => 1
  | .smem => 3
  | _ => 0

abbrev bufTy : (tb : Table) → Fin (tcTables nBuf tb) → BufTy
  | .hbm, ⟨0, _⟩ => ⟨S1024, .i32⟩
  | .hbm, ⟨1, _⟩ => ⟨S8192x1024, .f32⟩
  | .hbm, ⟨2, _⟩ => ⟨S1024, .i32⟩
  | .hbm, ⟨3, _⟩ => ⟨S1024, .i32⟩
  | .hbm, ⟨4, _⟩ => ⟨S1024, .i32⟩
  | .hbm, ⟨5, _⟩ => ⟨S1024x1024, .f32⟩
  | .local _ .vmem, ⟨0, _⟩ => ⟨S1024x1024, .f32⟩
  | .local _ .smem, ⟨0, _⟩ => ⟨S1024, .i32⟩
  | .local _ .smem, ⟨1, _⟩ => ⟨S1024, .i32⟩
  | .local _ .smem, ⟨2, _⟩ => ⟨S1024, .i32⟩
  | _, _ => ⟨S1024, .i32⟩

abbrev bufScoped : (cs : CoreSpace) → Fin (nBuf (.core cs)) → Bool
  | .vmem, ⟨0, _⟩ => true
  | .smem, ⟨0, _⟩ => true
  | .smem, ⟨1, _⟩ => true
  | .smem, ⟨2, _⟩ => true
  | _, _ => false

abbrev semScoped : Fin 2 → Bool
  | ⟨0, _⟩ => false
  | ⟨1, _⟩ => false
  | _ => false

abbrev dmaSemScoped : Fin 7 → Bool
  | ⟨0, _⟩ => false
  | ⟨1, _⟩ => false
  | ⟨2, _⟩ => true
  | ⟨3, _⟩ => true
  | ⟨4, _⟩ => true
  | ⟨5, _⟩ => true
  | ⟨6, _⟩ => true
  | _ => false

abbrev sig : RefSig :=
  (ofTc nBuf bufTy 2 7 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v1_s0 : Ref sig .tc := ⟨.hbm, 3, rfl⟩
abbrev main_v1_s1 : Ref sig .tc := ⟨.hbm, 4, rfl⟩
abbrev main_v2 : Ref sig .tc := ⟨.hbm, 5, rfl⟩
abbrev cc0_stg1_0 : Ref sig .tc := ⟨.vmem, 0, rfl⟩
abbrev cc0_stg0_0 : Ref sig .tc := ⟨.smem, 0, rfl⟩
abbrev cc0_scratch0 : Ref sig .tc := ⟨.smem, 1, rfl⟩
abbrev cc0_scratch1 : Ref sig .tc := ⟨.smem, 2, rfl⟩
abbrev ar0_recv : DmaSem sig := 0
abbrev ar0_send : DmaSem sig := 1
abbrev cc0_sem0_0 : DmaSem sig := 2
abbrev cc0_sem1_0 : DmaSem sig := 3
abbrev ar0_barrier : Sem sig := 0
abbrev barrier0 : Sem sig := 1

abbrev nD : Nat := 16
abbrev τ : Topo := Topo.v7x

variable {F : FTy → Type} [FloatOps F]

abbrev ar0_mem : Fin 8 × Fin 2 → Dev nD := fun q => (![![0, 4], ![1, 5], ![2, 6], ![3, 7], ![8, 12], ![9, 13], ![10, 14], ![11, 15]] : Fin 8 → Fin 2 → Dev nD) q.1 q.2
abbrev ar0_pos : Dev nD → Fin 8 × Fin 2 := fun c => ((![0, 1, 2, 3, 0, 1, 2, 3, 4, 5, 6, 7, 4, 5, 6, 7] : Fin 16 → Fin 8) c, (![0, 0, 0, 0, 1, 1, 1, 1, 0, 0, 0, 0, 1, 1, 1, 1] : Fin 16 → Fin 2) c)
abbrev ar0_stage : Fin 2 → Ref sig .tc := fun | 0 => main_v1_s0 | 1 => main_v1_s1 | ⟨_ + 2, h⟩ => absurd h (Nat.not_lt.2 (Nat.le_add_left _ _))

abbrev grid0 : Pipeline.Grid := .none

def k0_dev1 (d0 : Dev nD) : Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_4 : BitVec 32 := 4#32
  let v11 : BitVec 32 := Scalar.muli v10 c4_i32_4
  let v12 : BitVec 32 := Scalar.addi v9 v11
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v13 : BitVec 32 := Scalar.addi v12 v8
  v13.toNat
@[reducible] def k0_t1_loop : Scf.Loop 32 :=
  let c0_i32_7 : BitVec 32 := 0#32
  let c1024_i32 : BitVec 32 := 1024#32
  let v16 : BitVec 32 := Scalar.addi c0_i32_7 c1024_i32
  let c1_i32_8 : BitVec 32 := 1#32
  ⟨c0_i32_7, v16, c1_i32_8⟩
def k0_off1 (k0_t1 : Fin k0_t1_loop.trips) : Fin 1 → Nat :=
  let c0_i32_7 : BitVec 32 := 0#32
  let c1_i32_8 : BitVec 32 := 1#32
  let arg8 : BitVec 32 := Scf.iv c0_i32_7 c1_i32_8 k0_t1
  let v39 : Index := Scalar.indexCast arg8
  ![v39.toNat]
def k0_off2 (arg9 : BitVec 32) : Fin 1 → Nat :=
  let v47 : Index := Scalar.indexCast arg9
  ![v47.toNat]
def k0_cond1 (d0 : Dev nD) (v40 : BitVec 32) : BitVec 1 :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c8192_i32 : BitVec 32 := 8192#32
  let v14 : BitVec 32 := Scalar.muli v5 c8192_i32
  let v41 : BitVec 32 := Scalar.subi v40 v14
  let c8192_i32_31 : BitVec 32 := 8192#32
  let v42 : BitVec 1 := Scalar.cmpi .ult v41 c8192_i32_31
  let v43 : BitVec 32 := Scalar.extui v42
  let c0_i32_32 : BitVec 32 := 0#32
  let v44 : BitVec 1 := Scalar.cmpi .ne v43 c0_i32_32
  v44

def k0_chk1 (d0 : Dev nD) (arg9 : BitVec 32) (v40 : BitVec 32) : Prop :=
  (∀ (k0_h1 : k0_cond1 d0 v40 = 1#1), ∀ a, (k0_off2 arg9) a + S1.size a ≤ S1024.size a)
theorem k0_off2_inb : ∀ (d0 : Dev nD) (arg9 : BitVec 32) (v40 : BitVec 32) (k0_hw1 : k0_chk1 d0 arg9 v40), ∀ (k0_h1 : k0_cond1 d0 v40 = 1#1), ∀ a, (k0_off2 arg9) a + S1.size a ≤ S1024.size a := fun d0 arg9 v40 k0_hw1 k0_h1 => k0_hw1 k0_h1

@[reducible] def k0_t2_loop (v17 : BitVec 32) : Scf.Loop 32 :=
  let c0_i32_12 : BitVec 32 := 0#32
  let v19 : BitVec 32 := Scalar.subi v17 c0_i32_12
  let c1_i32_13 : BitVec 32 := 1#32
  let v21 : BitVec 32 := Scalar.divsi v19 c1_i32_13
  let v22 : BitVec 32 := Scalar.muli v21 c1_i32_13
  let v23 : BitVec 32 := Scalar.addi c0_i32_12 v22
  let c1_i32_14 : BitVec 32 := 1#32
  ⟨c0_i32_12, v23, c1_i32_14⟩

def k0_off3 (v17 : BitVec 32) (k0_t2 : Fin (k0_t2_loop v17).trips) : Fin 1 → Nat :=
  let c0_i32_12 : BitVec 32 := 0#32
  let c1_i32_14 : BitVec 32 := 1#32
  let arg8 : BitVec 32 := Scf.iv c0_i32_12 c1_i32_14 k0_t2
  let v39 : Index := Scalar.indexCast arg8
  ![v39.toNat]
def k0_off4 (v42 : BitVec 32) : Fin 2 → Nat :=
  let c0_i32_31 : BitVec 32 := 0#32
  ![v42.toNat, 0]

def k0_chk3 (v42 : BitVec 32) : Prop :=
  (∀ a, (k0_off4 v42) a + S1x1024.size a ≤ S1024x1024.size a)
theorem k0_off4_inb : ∀ (v42 : BitVec 32) (k0_hw3 : k0_chk3 v42), ∀ a, (k0_off4 v42) a + S1x1024.size a ≤ S1024x1024.size a := fun v42 k0_hw3 => k0_hw3

def k0_off5 (v40 : BitVec 32) : Fin 2 → Nat :=
  let c0_i32_32 : BitVec 32 := 0#32
  ![v40.toNat, 0]

def k0_chk4 (v40 : BitVec 32) : Prop :=
  (∀ a, (k0_off5 v40) a + S1x1024.size a ≤ S8192x1024.size a)
theorem k0_off5_inb : ∀ (v40 : BitVec 32) (k0_hw4 : k0_chk4 v40), ∀ a, (k0_off5 v40) a + S1x1024.size a ≤ S8192x1024.size a := fun v40 k0_hw4 => k0_hw4

def k0_dev2 (d0 : Dev nD) : Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_4 : BitVec 32 := 4#32
  let v11 : BitVec 32 := Scalar.muli v10 c4_i32_4
  let v12 : BitVec 32 := Scalar.addi v9 v11
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v13 : BitVec 32 := Scalar.addi v12 v8
  v13.toNat
@[reducible] def k0_t3_loop (v17 : BitVec 32) : Scf.Loop 32 :=
  let c0_i32_12 : BitVec 32 := 0#32
  let v19 : BitVec 32 := Scalar.subi v17 c0_i32_12
  let c1_i32_13 : BitVec 32 := 1#32
  let v21 : BitVec 32 := Scalar.divsi v19 c1_i32_13
  let v22 : BitVec 32 := Scalar.muli v21 c1_i32_13
  let v23 : BitVec 32 := Scalar.addi c0_i32_12 v22
  let v20 : BitVec 32 := Scalar.addi c0_i32_12 v19
  let c1_i32_15 : BitVec 32 := 1#32
  ⟨v23, v20, c1_i32_15⟩
def k0_off6 (v17 : BitVec 32) (k0_t3 : Fin (k0_t3_loop v17).trips) : Fin 1 → Nat :=
  let c0_i32_12 : BitVec 32 := 0#32
  let v19 : BitVec 32 := Scalar.subi v17 c0_i32_12
  let c1_i32_13 : BitVec 32 := 1#32
  let v21 : BitVec 32 := Scalar.divsi v19 c1_i32_13
  let v22 : BitVec 32 := Scalar.muli v21 c1_i32_13
  let v23 : BitVec 32 := Scalar.addi c0_i32_12 v22
  let c1_i32_15 : BitVec 32 := 1#32
  let arg8 : BitVec 32 := Scf.iv v23 c1_i32_15 k0_t3
  let v39 : Index := Scalar.indexCast arg8
  ![v39.toNat]
def k0_off7 (v42 : BitVec 32) : Fin 2 → Nat :=
  let c0_i32_31 : BitVec 32 := 0#32
  ![v42.toNat, 0]

def k0_chk5 (v42 : BitVec 32) : Prop :=
  (∀ a, (k0_off7 v42) a + S1x1024.size a ≤ S1024x1024.size a)
theorem k0_off7_inb : ∀ (v42 : BitVec 32) (k0_hw5 : k0_chk5 v42), ∀ a, (k0_off7 v42) a + S1x1024.size a ≤ S1024x1024.size a := fun v42 k0_hw5 => k0_hw5

def k0_off8 (v40 : BitVec 32) : Fin 2 → Nat :=
  let c0_i32_32 : BitVec 32 := 0#32
  ![v40.toNat, 0]

def k0_chk6 (v40 : BitVec 32) : Prop :=
  (∀ a, (k0_off8 v40) a + S1x1024.size a ≤ S8192x1024.size a)
theorem k0_off8_inb : ∀ (v40 : BitVec 32) (k0_hw6 : k0_chk6 v40), ∀ a, (k0_off8 v40) a + S1x1024.size a ≤ S8192x1024.size a := fun v40 k0_hw6 => k0_hw6

def k0_dev3 (d0 : Dev nD) : Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_4 : BitVec 32 := 4#32
  let v11 : BitVec 32 := Scalar.muli v10 c4_i32_4
  let v12 : BitVec 32 := Scalar.addi v9 v11
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v13 : BitVec 32 := Scalar.addi v12 v8
  v13.toNat
@[reducible] def k0_t4_loop (v17 : BitVec 32) : Scf.Loop 32 :=
  let c0_i32_17 : BitVec 32 := 0#32
  let v24 : BitVec 32 := Scalar.subi v17 c0_i32_17
  let c1_i32_18 : BitVec 32 := 1#32
  let v26 : BitVec 32 := Scalar.divsi v24 c1_i32_18
  let v27 : BitVec 32 := Scalar.muli v26 c1_i32_18
  let v28 : BitVec 32 := Scalar.addi c0_i32_17 v27
  let c1_i32_19 : BitVec 32 := 1#32
  ⟨c0_i32_17, v28, c1_i32_19⟩
def k0_off9 (v17 : BitVec 32) (k0_t4 : Fin (k0_t4_loop v17).trips) : Fin 1 → Nat :=
  let c0_i32_17 : BitVec 32 := 0#32
  let c1_i32_19 : BitVec 32 := 1#32
  let arg8 : BitVec 32 := Scf.iv c0_i32_17 c1_i32_19 k0_t4
  let v39 : Index := Scalar.indexCast arg8
  ![v39.toNat]
def k0_off10 (v42 : BitVec 32) : Fin 2 → Nat :=
  let c0_i32_31 : BitVec 32 := 0#32
  ![v42.toNat, 0]

def k0_chk7 (v42 : BitVec 32) : Prop :=
  (∀ a, (k0_off10 v42) a + S1x1024.size a ≤ S1024x1024.size a)
theorem k0_off10_inb : ∀ (v42 : BitVec 32) (k0_hw7 : k0_chk7 v42), ∀ a, (k0_off10 v42) a + S1x1024.size a ≤ S1024x1024.size a := fun v42 k0_hw7 => k0_hw7

def k0_off11 (v40 : BitVec 32) : Fin 2 → Nat :=
  let c0_i32_32 : BitVec 32 := 0#32
  ![v40.toNat, 0]

def k0_chk8 (v40 : BitVec 32) : Prop :=
  (∀ a, (k0_off11 v40) a + S1x1024.size a ≤ S8192x1024.size a)
theorem k0_off11_inb : ∀ (v40 : BitVec 32) (k0_hw8 : k0_chk8 v40), ∀ a, (k0_off11 v40) a + S1x1024.size a ≤ S8192x1024.size a := fun v40 k0_hw8 => k0_hw8

@[reducible] def k0_t5_loop (v17 : BitVec 32) : Scf.Loop 32 :=
  let c0_i32_17 : BitVec 32 := 0#32
  let v24 : BitVec 32 := Scalar.subi v17 c0_i32_17
  let c1_i32_18 : BitVec 32 := 1#32
  let v26 : BitVec 32 := Scalar.divsi v24 c1_i32_18
  let v27 : BitVec 32 := Scalar.muli v26 c1_i32_18
  let v28 : BitVec 32 := Scalar.addi c0_i32_17 v27
  let v25 : BitVec 32 := Scalar.addi c0_i32_17 v24
  let c1_i32_20 : BitVec 32 := 1#32
  ⟨v28, v25, c1_i32_20⟩
def k0_off12 (v17 : BitVec 32) (k0_t5 : Fin (k0_t5_loop v17).trips) : Fin 1 → Nat :=
  let c0_i32_17 : BitVec 32 := 0#32
  let v24 : BitVec 32 := Scalar.subi v17 c0_i32_17
  let c1_i32_18 : BitVec 32 := 1#32
  let v26 : BitVec 32 := Scalar.divsi v24 c1_i32_18
  let v27 : BitVec 32 := Scalar.muli v26 c1_i32_18
  let v28 : BitVec 32 := Scalar.addi c0_i32_17 v27
  let c1_i32_20 : BitVec 32 := 1#32
  let arg8 : BitVec 32 := Scf.iv v28 c1_i32_20 k0_t5
  let v39 : Index := Scalar.indexCast arg8
  ![v39.toNat]
def k0_off13 (v42 : BitVec 32) : Fin 2 → Nat :=
  let c0_i32_31 : BitVec 32 := 0#32
  ![v42.toNat, 0]

def k0_chk9 (v42 : BitVec 32) : Prop :=
  (∀ a, (k0_off13 v42) a + S1x1024.size a ≤ S1024x1024.size a)
theorem k0_off13_inb : ∀ (v42 : BitVec 32) (k0_hw9 : k0_chk9 v42), ∀ a, (k0_off13 v42) a + S1x1024.size a ≤ S1024x1024.size a := fun v42 k0_hw9 => k0_hw9

def k0_off14 (v40 : BitVec 32) : Fin 2 → Nat :=
  let c0_i32_32 : BitVec 32 := 0#32
  ![v40.toNat, 0]

def k0_chk10 (v40 : BitVec 32) : Prop :=
  (∀ a, (k0_off14 v40) a + S1x1024.size a ≤ S8192x1024.size a)
theorem k0_off14_inb : ∀ (v40 : BitVec 32) (k0_hw10 : k0_chk10 v40), ∀ a, (k0_off14 v40) a + S1x1024.size a ≤ S8192x1024.size a := fun v40 k0_hw10 => k0_hw10

@[reducible] def k0_t6_loop (v17 : BitVec 32) : Scf.Loop 32 :=
  let c0_i32_22 : BitVec 32 := 0#32
  let v29 : BitVec 32 := Scalar.subi v17 c0_i32_22
  let c1_i32_23 : BitVec 32 := 1#32
  let v31 : BitVec 32 := Scalar.divsi v29 c1_i32_23
  let v32 : BitVec 32 := Scalar.muli v31 c1_i32_23
  let v33 : BitVec 32 := Scalar.addi c0_i32_22 v32
  let c1_i32_24 : BitVec 32 := 1#32
  ⟨c0_i32_22, v33, c1_i32_24⟩
@[reducible] def k0_t7_loop (v17 : BitVec 32) : Scf.Loop 32 :=
  let c0_i32_22 : BitVec 32 := 0#32
  let v29 : BitVec 32 := Scalar.subi v17 c0_i32_22
  let c1_i32_23 : BitVec 32 := 1#32
  let v31 : BitVec 32 := Scalar.divsi v29 c1_i32_23
  let v32 : BitVec 32 := Scalar.muli v31 c1_i32_23
  let v33 : BitVec 32 := Scalar.addi c0_i32_22 v32
  let v30 : BitVec 32 := Scalar.addi c0_i32_22 v29
  let c1_i32_25 : BitVec 32 := 1#32
  ⟨v33, v30, c1_i32_25⟩
@[reducible] def k0_t8_loop (v17 : BitVec 32) : Scf.Loop 32 :=
  let c0_i32_27 : BitVec 32 := 0#32
  let c1024_i32_10 : BitVec 32 := 1024#32
  let v18 : BitVec 32 := Scalar.subi c1024_i32_10 v17
  let v34 : BitVec 32 := Scalar.subi v18 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let c1_i32_29 : BitVec 32 := 1#32
  ⟨c0_i32_27, v38, c1_i32_29⟩
@[reducible] def k0_t9_loop (v17 : BitVec 32) : Scf.Loop 32 :=
  let c0_i32_27 : BitVec 32 := 0#32
  let c1024_i32_10 : BitVec 32 := 1024#32
  let v18 : BitVec 32 := Scalar.subi c1024_i32_10 v17
  let v34 : BitVec 32 := Scalar.subi v18 c0_i32_27
  let c1_i32_28 : BitVec 32 := 1#32
  let v36 : BitVec 32 := Scalar.divsi v34 c1_i32_28
  let v37 : BitVec 32 := Scalar.muli v36 c1_i32_28
  let v38 : BitVec 32 := Scalar.addi c0_i32_27 v37
  let v35 : BitVec 32 := Scalar.addi c0_i32_27 v34
  let c1_i32_30 : BitVec 32 := 1#32
  ⟨v38, v35, c1_i32_30⟩

def k0_chk2 (v17 : BitVec 32) : Prop :=
  ((k0_t2_loop v17).OK) ∧
  (∀ k0_t2 : Fin (k0_t2_loop v17).trips, ∀ a, (k0_off3 v17 k0_t2) a + S1.size a ≤ S1024.size a) ∧
  ((k0_t3_loop v17).OK) ∧
  (∀ k0_t3 : Fin (k0_t3_loop v17).trips, ∀ a, (k0_off6 v17 k0_t3) a + S1.size a ≤ S1024.size a) ∧
  ((k0_t4_loop v17).OK) ∧
  (∀ k0_t4 : Fin (k0_t4_loop v17).trips, ∀ a, (k0_off9 v17 k0_t4) a + S1.size a ≤ S1024.size a) ∧
  ((k0_t5_loop v17).OK) ∧
  (∀ k0_t5 : Fin (k0_t5_loop v17).trips, ∀ a, (k0_off12 v17 k0_t5) a + S1.size a ≤ S1024.size a) ∧
  ((k0_t6_loop v17).OK) ∧
  ((k0_t7_loop v17).OK) ∧
  ((k0_t8_loop v17).OK) ∧
  ((k0_t9_loop v17).OK)
theorem k0_t2_ok : ∀ (v17 : BitVec 32) (k0_hw2 : k0_chk2 v17), (k0_t2_loop v17).OK := fun v17 k0_hw2 => k0_hw2.1
theorem k0_off3_inb : ∀ (v17 : BitVec 32) (k0_hw2 : k0_chk2 v17) (k0_t2 : Fin (k0_t2_loop v17).trips), ∀ a, (k0_off3 v17 k0_t2) a + S1.size a ≤ S1024.size a := fun v17 k0_hw2 k0_t2 => k0_hw2.2.1 k0_t2
theorem k0_t3_ok : ∀ (v17 : BitVec 32) (k0_hw2 : k0_chk2 v17), (k0_t3_loop v17).OK := fun v17 k0_hw2 => k0_hw2.2.2.1
theorem k0_off6_inb : ∀ (v17 : BitVec 32) (k0_hw2 : k0_chk2 v17) (k0_t3 : Fin (k0_t3_loop v17).trips), ∀ a, (k0_off6 v17 k0_t3) a + S1.size a ≤ S1024.size a := fun v17 k0_hw2 k0_t3 => k0_hw2.2.2.2.1 k0_t3
theorem k0_t4_ok : ∀ (v17 : BitVec 32) (k0_hw2 : k0_chk2 v17), (k0_t4_loop v17).OK := fun v17 k0_hw2 => k0_hw2.2.2.2.2.1
theorem k0_off9_inb : ∀ (v17 : BitVec 32) (k0_hw2 : k0_chk2 v17) (k0_t4 : Fin (k0_t4_loop v17).trips), ∀ a, (k0_off9 v17 k0_t4) a + S1.size a ≤ S1024.size a := fun v17 k0_hw2 k0_t4 => k0_hw2.2.2.2.2.2.1 k0_t4
theorem k0_t5_ok : ∀ (v17 : BitVec 32) (k0_hw2 : k0_chk2 v17), (k0_t5_loop v17).OK := fun v17 k0_hw2 => k0_hw2.2.2.2.2.2.2.1
theorem k0_off12_inb : ∀ (v17 : BitVec 32) (k0_hw2 : k0_chk2 v17) (k0_t5 : Fin (k0_t5_loop v17).trips), ∀ a, (k0_off12 v17 k0_t5) a + S1.size a ≤ S1024.size a := fun v17 k0_hw2 k0_t5 => k0_hw2.2.2.2.2.2.2.2.1 k0_t5
theorem k0_t6_ok : ∀ (v17 : BitVec 32) (k0_hw2 : k0_chk2 v17), (k0_t6_loop v17).OK := fun v17 k0_hw2 => k0_hw2.2.2.2.2.2.2.2.2.1
theorem k0_t7_ok : ∀ (v17 : BitVec 32) (k0_hw2 : k0_chk2 v17), (k0_t7_loop v17).OK := fun v17 k0_hw2 => k0_hw2.2.2.2.2.2.2.2.2.2.1
theorem k0_t8_ok : ∀ (v17 : BitVec 32) (k0_hw2 : k0_chk2 v17), (k0_t8_loop v17).OK := fun v17 k0_hw2 => k0_hw2.2.2.2.2.2.2.2.2.2.2.1
theorem k0_t9_ok : ∀ (v17 : BitVec 32) (k0_hw2 : k0_chk2 v17), (k0_t9_loop v17).OK := fun v17 k0_hw2 => k0_hw2.2.2.2.2.2.2.2.2.2.2.2

abbrev stage0_0 : Fin 1 → Memref sig .tc .smem S1024 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024 : Shape := ⟨1, ![1024]⟩
abbrev S16384x1024 : Shape := ⟨2, ![16384, 1024]⟩
abbrev S_ : Shape := ⟨0, ![]⟩
abbrev S1024x1 : Shape := ⟨2, ![1024, 1]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1024, .i32⟩
  | .hbm, ⟨1, _⟩ => ⟨S16384x1024, .f32⟩
  | .hbm, ⟨2, _⟩ => ⟨S_, .i32⟩
  | .hbm, ⟨3, _⟩ => ⟨S1024, .i32⟩
  | .hbm, ⟨4, _⟩ => ⟨S1024, .i1⟩
  | .hbm, ⟨5, _⟩ => ⟨S_, .i32⟩
  | .hbm, ⟨6, _⟩ => ⟨S1024, .i32⟩
  | .hbm, ⟨7, _⟩ => ⟨S1024, .i32⟩
  | .hbm, ⟨8, _⟩ => ⟨S1024, .i32⟩
  | .hbm, ⟨9, _⟩ => ⟨S1024x1, .i32⟩
  | .hbm, ⟨10, _⟩ => ⟨S1024x1024, .f32⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Words.lean ====
/-
  The words the kernel computes: which device owns an id, the partner's number, how often each loop trips.
-/
module

public import proofs.«01_k».proof.Proof.Gen.KernelIdeal
public import proofs.«01_k».proof.Proof.Gen.KernelIdeal.Skeleton
public import Idealize.ShloMosaic.Lib.Tactic
public import Idealize.ShloMosaic.Lib.LoopRemainder

@[expose] public section

noncomputable section

namespace Cert.Embed

open Cert.KernelIdeal Cert.KernelIdeal.Gen
open Idealize.ShloMosaic

/-! ## The pair of devices that share the table -/

/-- The device with the other half of the table: the other position on mesh axis `y`. -/
def pr (c : Dev nD) : Dev nD := ⟨(c.val / 8) * 8 + (1 - c.val / 4 % 2) * 4 + c.val % 4, by have : c.val < 16 := c.isLt; show _ < 16; omega⟩

theorem pr_pr : ∀ c : Dev nD, pr (pr c) = c := by decide
theorem pr_ne : ∀ c : Dev nD, pr c ≠ c := by decide

theorem dev1_eq (c : Dev nD) : (⟨k0_dev1 c, k0_dev1_lt c⟩ : Dev nD) = pr c := by revert c; decide
theorem dev2_eq (c : Dev nD) : (⟨k0_dev2 c, k0_dev2_lt c⟩ : Dev nD) = pr c := by revert c; decide

/-! ## Ownership -/

/-- The first row of device `c`'s half of the table, as the kernel computes it. -/
def base (c : Dev nD) : BitVec 32 := Scalar.muli (Scalar.remsi (Scalar.divsi (Dev.word c) 4#32) 2#32) 8192#32

/-- Which half a device holds. -/
def half (c : Dev nD) : Nat := c.val / 4 % 2

theorem base_eq : ∀ c : Dev nD, base c = BitVec.ofNat 32 (8192 * half c) := by decide
theorem half_cases (c : Dev nD) : half c = 0 ∨ half c = 1 := by unfold half; omega
theorem half_pr : ∀ c : Dev nD, half (pr c) = 1 - half c := by decide

/-- The id's row in device `c`'s half, as the kernel computes it. -/
def row (c : Dev nD) (w : BitVec 32) : BitVec 32 := Scalar.subi w (base c)

/-- Device `c` owns the id `w`: its row lies in `c`'s half. -/
def mine (c : Dev nD) (w : BitVec 32) : Prop := (row c w).toNat < 8192

instance (c : Dev nD) (w : BitVec 32) : Decidable (mine c w) := by unfold mine; infer_instance

theorem cmp_iff (x : BitVec 32) : Scalar.cmpi .ult x 8192#32 = if x.toNat < 8192 then 1#1 else 0#1 := by
  have : Scalar.cmpi .ult x 8192#32 = BitVec.ofBool (BitVec.ult x 8192#32) := rfl
  rw [this, BitVec.ult]
  by_cases h : x.toNat < 8192 <;> simp [h]

theorem cond_iff (c : Dev nD) (w : BitVec 32) : k0_cond1 c w = 1#1 ↔ mine c w := by
  have e : k0_cond1 c w = Scalar.cmpi .ne (Scalar.extui (Scalar.cmpi .ult (row c w) 8192#32)) 0#32 := rfl
  rw [e, cmp_iff]
  unfold mine
  by_cases h : (row c w).toNat < 8192
  · rw [if_pos h]; exact ⟨fun _ => h, fun _ => by decide⟩
  · rw [if_neg h]; exact ⟨fun h' => absurd h' (by decide), fun h' => absurd h' h⟩

/-- What a trip of the scan adds to the count. -/
theorem count_step (c : Dev nD) (w : BitVec 32) :
    Scalar.extui (Scalar.cmpi .ult (row c w) 8192#32) = if mine c w then 1#32 else 0#32 := by
  rw [cmp_iff]; unfold mine
  by_cases h : (row c w).toNat < 8192
  · rw [if_pos h]; exact (if_pos h).symm
  · rw [if_neg h]; exact (if_neg h).symm

theorem row_toNat (c : Dev nD) (w : BitVec 32) (hw : w.toNat < 16384) :
    (row c w).toNat = if 8192 * half c ≤ w.toNat then w.toNat - 8192 * half c else 2 ^ 32 - (8192 * half c - w.toNat) := by
  have e : row c w = w - base c := rfl
  rw [e, base_eq, BitVec.toNat_sub, BitVec.toNat_ofNat]
  rcases half_cases c with h | h <;> rw [h] <;> split <;> omega

theorem mine_iff (c : Dev nD) (w : BitVec 32) (hw : w.toNat < 16384) : mine c w ↔ w.toNat / 8192 = half c := by
  unfold mine; rw [row_toNat c w hw]
  rcases half_cases c with h | h <;> rw [h] <;> split <;> omega

/-- Of the two devices of a pair exactly one owns an id of the table. -/
theorem mine_pr (c : Dev nD) (w : BitVec 32) (hw : w.toNat < 16384) : mine (pr c) w ↔ ¬mine c w := by
  rw [mine_iff _ _ hw, mine_iff _ _ hw, half_pr]
  rcases half_cases c with h | h <;> rw [h] <;> omega

/-- An owned id is its row past the half's first. -/
theorem row_of_mine (c : Dev nD) (w : BitVec 32) (hw : w.toNat < 16384) (h : mine c w) : (row c w).toNat + 8192 * half c = w.toNat := by
  rw [mine_iff _ _ hw] at h
  rw [row_toNat c w hw, if_pos (by omega)]; omega

/-! ## The loops -/

theorem run_bound (x : BitVec 32) : Scalar.addi 0#32 (Scalar.muli (Scalar.divsi (Scalar.subi x 0#32) 1#32) 1#32) = x := by
  rw [Scalar.muli_divsi_one]
  show 0#32 + (x - 0#32) = x
  rw [BitVec.sub_zero, BitVec.zero_add]

theorem toInt_small (n : ℕ) (hn : n ≤ 1024) : (BitVec.ofNat 32 n).toInt = n := by
  have h : (BitVec.ofNat 32 n).toNat = n := by rw [BitVec.toNat_ofNat]; omega
  rw [BitVec.toInt_eq_toNat_of_lt (by rw [h]; omega), h]

theorem toNat_small (n : ℕ) (hn : n ≤ 1024) : (BitVec.ofNat 32 n).toNat = n := by rw [BitVec.toNat_ofNat]; omega

theorem run_trips (x : BitVec 32) (n : ℕ) (hx : x = BitVec.ofNat 32 n) (hn : n ≤ 1024) :
    Scf.trips 0#32 (Scalar.addi 0#32 (Scalar.muli (Scalar.divsi (Scalar.subi x 0#32) 1#32) 1#32)) 1#32 = n := by
  rw [run_bound, hx]
  unfold Scf.trips
  have h1 : (1#32 : BitVec 32).toInt = 1 := by decide
  have h0 : (0#32 : BitVec 32).toInt = 0 := by decide
  rw [h1, h0, toInt_small n hn]; omega

theorem run_ok (x : BitVec 32) (n : ℕ) (hx : x = BitVec.ofNat 32 n) (hn : n ≤ 1024) :
    Scf.OK 0#32 (Scalar.addi 0#32 (Scalar.muli (Scalar.divsi (Scalar.subi x 0#32) 1#32) 1#32)) 1#32 := by
  unfold Scf.OK
  rw [run_trips x n hx hn]
  have h1 : (1#32 : BitVec 32).toInt = 1 := by decide
  have h0 : (0#32 : BitVec 32).toInt = 0 := by decide
  rw [h1, h0]; refine ⟨by decide, ?_⟩
  simp only [Nat.add_one_sub_one]
  have : (2 : Int) ^ 31 = 2147483648 := by decide
  rw [this]; omega

theorem iv_eq (k : ℕ) : Scf.iv 0#32 1#32 k = BitVec.ofNat 32 k := by
  unfold Scf.iv; rw [BitVec.mul_one, BitVec.zero_add]

theorem idx_eq (k : ℕ) (hk : k ≤ 1024) : (Scalar.indexCast (Scf.iv 0#32 1#32 k)).toNat = k := by
  rw [iv_eq]; exact toNat_small k hk

theorem rest_eq (n : ℕ) (hn : n ≤ 1024) : Scalar.subi 1024#32 (BitVec.ofNat 32 n) = BitVec.ofNat 32 (1024 - n) := by
  show 1024#32 - BitVec.ofNat 32 n = _
  apply BitVec.eq_of_toNat_eq
  rw [BitVec.toNat_sub, toNat_small n hn, toNat_small 1024 (by omega), toNat_small (1024 - n) (by omega)]
  omega

section
variable (n : ℕ) (hn : n ≤ 1024)
include hn

theorem t2_trips : (k0_t2_loop (BitVec.ofNat 32 n)).trips = n := run_trips _ n rfl hn
theorem t4_trips : (k0_t4_loop (BitVec.ofNat 32 n)).trips = n := run_trips _ n rfl hn
theorem t6_trips : (k0_t6_loop (BitVec.ofNat 32 n)).trips = n := run_trips _ n rfl hn
theorem t8_trips : (k0_t8_loop (BitVec.ofNat 32 n)).trips = 1024 - n := run_trips _ (1024 - n) (rest_eq n hn) (by omega)

theorem off3_eq (t : Fin (k0_t2_loop (BitVec.ofNat 32 n)).trips) : k0_off3 (BitVec.ofNat 32 n) t = ![t.val] := by
  have ht : t.val < n := lt_of_lt_of_eq t.isLt (t2_trips n hn)
  show ![(Scalar.indexCast (Scf.iv 0#32 1#32 t.val)).toNat] = _
  rw [idx_eq _ (by omega)]

theorem off9_eq (t : Fin (k0_t4_loop (BitVec.ofNat 32 n)).trips) : k0_off9 (BitVec.ofNat 32 n) t = ![t.val] := by
  have ht : t.val < n := lt_of_lt_of_eq t.isLt (t4_trips n hn)
  show ![(Scalar.indexCast (Scf.iv 0#32 1#32 t.val)).toNat] = _
  rw [idx_eq _ (by omega)]

theorem chk2_small : k0_chk2 (BitVec.ofNat 32 n) := by
  refine ⟨run_ok _ n rfl hn, ?_, Scf.rem_ok _ _, ?_, run_ok _ n rfl hn, ?_, Scf.rem_ok _ _, ?_, run_ok _ n rfl hn, Scf.rem_ok _ _,
    run_ok _ (1024 - n) (rest_eq n hn) (by omega), Scf.rem_ok _ _⟩
  · intro t a
    have ht : t.val < n := lt_of_lt_of_eq t.isLt (t2_trips n hn)
    rw [off3_eq n hn]; fin_cases a; show t.val + 1 ≤ 1024; omega
  · intro t; exact (Scf.rem_no_trip _ _ t).elim
  · intro t a
    have ht : t.val < n := lt_of_lt_of_eq t.isLt (t4_trips n hn)
    rw [off9_eq n hn]; fin_cases a; show t.val + 1 ≤ 1024; omega
  · intro t; exact (Scf.rem_no_trip _ _ t).elim

end

theorem t1_trips : k0_t1_loop.trips = 1024 := by decide
theorem t1_lt (t : Fin k0_t1_loop.trips) : t.val < 1024 := lt_of_lt_of_eq t.isLt t1_trips

theorem off1_eq (t : Fin k0_t1_loop.trips) : k0_off1 t = ![t.val] := by
  have ht := t1_lt t
  show ![(Scalar.indexCast (Scf.iv 0#32 1#32 t.val)).toNat] = _
  rw [idx_eq _ (by omega)]

theorem off2_eq (n : ℕ) (hn : n ≤ 1024) : k0_off2 (BitVec.ofNat 32 n) = ![n] := by
  show ![(BitVec.ofNat 32 n).toNat] = _
  rw [toNat_small n hn]

theorem off4_eq (n : ℕ) (hn : n ≤ 1024) : k0_off4 (BitVec.ofNat 32 n) = ![n, 0] := by
  show ![(BitVec.ofNat 32 n).toNat, 0] = _
  rw [toNat_small n hn]

theorem off10_eq (n : ℕ) (hn : n ≤ 1024) : k0_off10 (BitVec.ofNat 32 n) = ![n, 0] := by
  show ![(BitVec.ofNat 32 n).toNat, 0] = _
  rw [toNat_small n hn]

theorem off5_eq (w : BitVec 32) : k0_off5 w = ![w.toNat, 0] := rfl
theorem off11_eq (w : BitVec 32) : k0_off11 w = ![w.toNat, 0] := rfl

theorem chk1_small (c : Dev nD) (n : ℕ) (hn : n < 1024) (w : BitVec 32) : k0_chk1 c (BitVec.ofNat 32 n) w := by
  intro _ a; rw [off2_eq n (by omega)]; fin_cases a; show n + 1 ≤ 1024; omega
theorem chk3_small (n : ℕ) (hn : n < 1024) : k0_chk3 (BitVec.ofNat 32 n) := by
  intro a; rw [off4_eq n (by omega)]; fin_cases a
  · show n + 1 ≤ 1024; omega
  · show 0 + 1024 ≤ 1024; omega
theorem chk7_small (n : ℕ) (hn : n < 1024) : k0_chk7 (BitVec.ofNat 32 n) := by
  intro a; rw [off10_eq n (by omega)]; fin_cases a
  · show n + 1 ≤ 1024; omega
  · show 0 + 1024 ≤ 1024; omega
theorem chk4_small (w : BitVec 32) (hw : w.toNat < 8192) : k0_chk4 w := by
  intro a; rw [off5_eq]; fin_cases a
  · show w.toNat + 1 ≤ 8192; omega
  · show 0 + 1024 ≤ 1024; omega
theorem chk8_small (w : BitVec 32) (hw : w.toNat < 8192) : k0_chk8 w := by
  intro a; rw [off11_eq]; fin_cases a
  · show w.toNat + 1 ≤ 8192; omega
  · show 0 + 1024 ≤ 1024; omega

/-! ## The tokens a device owns, in the order in which the scan finds them -/

/-- The tokens before `n` whose id `c` owns. -/
def owned (c : Dev nD) (I : ℕ → BitVec 32) (n : ℕ) : List ℕ := (List.range n).filter fun k => decide (mine c (I k))

theorem owned_succ (c : Dev nD) (I : ℕ → BitVec 32) (n : ℕ) :
    owned c I (n + 1) = if mine c (I n) then owned c I n ++ [n] else owned c I n := by
  unfold owned
  rw [List.range_succ, List.filter_append]
  by_cases h : mine c (I n) <;> simp [h]

theorem owned_length_le (c : Dev nD) (I : ℕ → BitVec 32) (n : ℕ) : (owned c I n).length ≤ n := by
  have := List.length_filter_le (fun k => decide (mine c (I k))) (List.range n)
  rw [List.length_range] at this; exact this

theorem mem_owned (c : Dev nD) (I : ℕ → BitVec 32) (n k : ℕ) : k ∈ owned c I n ↔ k < n ∧ mine c (I k) := by
  unfold owned; rw [List.mem_filter, List.mem_range, decide_eq_true_eq]

theorem owned_nodup (c : Dev nD) (I : ℕ → BitVec 32) (n : ℕ) : (owned c I n).Nodup := List.nodup_range.filter _

/-- The tokens whose row device `c` fetches. -/
def own (c : Dev nD) (I : ℕ → BitVec 32) : Finset ℕ := (Finset.range 1024).filter fun k => mine c (I k)

theorem mem_own (c : Dev nD) (I : ℕ → BitVec 32) (k : ℕ) : k ∈ own c I ↔ k < 1024 ∧ mine c (I k) := by
  unfold own; rw [Finset.mem_filter, Finset.mem_range]

theorem own_eq (c : Dev nD) (I : ℕ → BitVec 32) : own c I = (owned c I 1024).toFinset := by
  ext k; rw [mem_own, List.mem_toFinset, mem_owned]

theorem card_own (c : Dev nD) (I : ℕ → BitVec 32) : (own c I).card = (owned c I 1024).length := by
  rw [own_eq, List.toFinset_card_of_nodup (owned_nodup c I 1024)]

theorem card_own_le (c : Dev nD) (I : ℕ → BitVec 32) : (own c I).card ≤ 1024 := by
  rw [card_own]; exact owned_length_le c I 1024

/-- Every token is owned by one device of the pair, and by one only. -/
theorem own_pr (c : Dev nD) (I : ℕ → BitVec 32) (hI : ∀ k, k < 1024 → (I k).toNat < 16384) :
    own (pr c) I = Finset.range 1024 \ own c I := by
  ext k; rw [Finset.mem_sdiff, mem_own, mem_own, Finset.mem_range]
  constructor
  · rintro ⟨h, h'⟩; exact ⟨h, fun hh => (mine_pr c _ (hI k h)).mp h' hh.2⟩
  · rintro ⟨h, h'⟩; exact ⟨h, (mine_pr c _ (hI k h)).mpr fun hh => h' ⟨h, hh⟩⟩

theorem card_own_pr (c : Dev nD) (I : ℕ → BitVec 32) (hI : ∀ k, k < 1024 → (I k).toNat < 16384) :
    (own (pr c) I).card = 1024 - (own c I).card := by
  rw [own_pr c I hI, Finset.card_sdiff_of_subset (show own c I ⊆ Finset.range 1024 from Finset.filter_subset _ _), Finset.card_range]

end Cert.Embed

end
-- ==== Proof.Rows.lean ====
/-
  Rows of the table and of the result: the elements a row copy reads and writes, and what it leaves.
-/
module

public import proofs.«01_k».proof.Proof.Words
public import Idealize.ShloMosaic.Lib.Pipeline.Kit
public import Idealize.ShloMosaic.Lib.Pipeline.ValueKit.Geometry
public import Idealize.ShloMosaic.Lib.Rounds
public import Idealize.ShloMosaic.Lib.Transfers

@[expose] public section

noncomputable section

namespace Cert.Embed

open Cert.KernelIdeal Cert.KernelIdeal.Gen
open Idealize.ShloMosaic
open Idealize.ShloMosaic.TcCoe

variable {F : FTy → Type}

/-- The result's row `k`; the table's row `r`. -/
def rowSet (k : ℕ) : Finset S1024x1024.Idx := Finset.univ.filter fun i => (i 0).val = k
def tabSet (r : ℕ) : Finset S8192x1024.Idx := Finset.univ.filter fun i => (i 0).val = r

theorem mem_rowSet (k : ℕ) (i : S1024x1024.Idx) : i ∈ rowSet k ↔ (i 0).val = k := by
  unfold rowSet; rw [Finset.mem_filter]; exact ⟨fun h => h.2, fun h => ⟨Finset.mem_univ _, h⟩⟩
theorem mem_tabSet (k : ℕ) (i : S8192x1024.Idx) : i ∈ tabSet k ↔ (i 0).val = k := by
  unfold tabSet; rw [Finset.mem_filter]; exact ⟨fun h => h.2, fun h => ⟨Finset.mem_univ _, h⟩⟩

theorem rowSet_disjoint {k k' : ℕ} (h : k ≠ k') : Disjoint (rowSet k) (rowSet k') := by
  rw [Finset.disjoint_left]; intro i hi hi'
  exact h (((mem_rowSet k i).mp hi).symm.trans ((mem_rowSet k' i).mp hi'))

theorem rowSet_cover : (Finset.univ : Finset S1024x1024.Idx) = (Finset.range 1024).biUnion rowSet := by
  ext i
  have h : (i 0).val < 1024 := (i 0).isLt
  rw [Finset.mem_biUnion]
  refine iff_of_true (Finset.mem_univ i) ⟨(i 0).val, ?_, (mem_rowSet _ i).mpr rfl⟩
  rw [Finset.mem_range]; exact h

abbrev outM : Memref sig .tc .vmem S1024x1024 .f32 := Memref.whole cc0_stg1_0
abbrev tabM : Memref sig .tc .hbm S8192x1024 .f32 := Memref.whole main_arg1
abbrev idsM : Memref sig .tc .smem S1024 .i32 := Memref.whole cc0_stg0_0
abbrev tokM : Memref sig .tc .smem S1024 .i32 := Memref.whole cc0_scratch0
abbrev rowM : Memref sig .tc .smem S1024 .i32 := Memref.whole cc0_scratch1

/-- One row of the result and one of the table, as the copies name them. -/
abbrev outRow (o : Fin 2 → ℕ) (h : ∀ a, o a + S1x1024.size a ≤ S1024x1024.size a) : Memref sig .tc .vmem S1x1024 .f32 :=
  outM.slice (Rect.unit (s := S1024x1024) o S1x1024.size h) (fun _ => rfl)
abbrev tabRow (o : Fin 2 → ℕ) (h : ∀ a, o a + S1x1024.size a ≤ S8192x1024.size a) : Memref sig .tc .hbm S1x1024 .f32 :=
  tabM.slice (Rect.unit (s := S8192x1024) o S1x1024.size h) (fun _ => rfl)

theorem outRow_set (k : ℕ) (o) (h) (ho : o = ![k, 0]) : (outRow o h).view.set = rowSet k := by
  subst ho
  show ((View.whole cc0_stg1_0).slice (Rect.unit (s := S1024x1024) ![k, 0] S1x1024.size h)).set = _
  rw [View.set_slice_whole]
  ext i
  rw [Rect.mem_set_unit, mem_rowSet]
  constructor
  · intro hi
    have h0 : k ≤ (i 0).val ∧ (i 0).val < k + 1 := hi 0
    omega
  · intro hi a
    have h1 : (i 1).val < 1024 := (i 1).isLt
    fin_cases a
    · show k ≤ (i 0).val ∧ (i 0).val < k + 1; omega
    · show 0 ≤ (i 1).val ∧ (i 1).val < 0 + 1024; omega

theorem tabRow_set (k : ℕ) (o) (h) (ho : o = ![k, 0]) : (tabRow o h).view.set = tabSet k := by
  subst ho
  show ((View.whole main_arg1).slice (Rect.unit (s := S8192x1024) ![k, 0] S1x1024.size h)).set = _
  rw [View.set_slice_whole]
  ext i
  rw [Rect.mem_set_unit, mem_tabSet]
  constructor
  · intro hi
    have h0 : k ≤ (i 0).val ∧ (i 0).val < k + 1 := hi 0
    omega
  · intro hi a
    have h1 : (i 1).val < 1024 := (i 1).isLt
    fin_cases a
    · show k ≤ (i 0).val ∧ (i 0).val < k + 1; omega
    · show 0 ≤ (i 1).val ∧ (i 1).val < 0 + 1024; omega

/-- An index of the table. -/
def tix (r : Fin 8192) (j : Fin 1024) : S8192x1024.Idx := fun a => match a with | ⟨0, _⟩ => r | ⟨1, _⟩ => j

/-- What row `k` of the result holds once row `r` of a table is copied into it. -/
theorem copied (k : ℕ) (r : Fin 8192) (o o') (h) (h') (ho : o = ![k, 0]) (ho' : o' = ![r.val, 0])
    (fd : (cc0_stg1_0 : Ref sig .tc).ty.Contents (Elt F)) (fs : (main_arg1 : Ref sig .tc).ty.Contents (Elt F)) (i : S1024x1024.Idx) (hi : i ∈ rowSet k) :
    (outRow o h).view.write (Elt F) fd ((tabRow o' h').view.read (Elt F) fs) Finset.univ i = fs (tix r (i 1)) := by
  subst ho; subst ho'
  rw [mem_rowSet] at hi
  let x : S1x1024.Idx := fun a => match a with | ⟨0, _⟩ => (0 : Fin 1) | ⟨1, _⟩ => (i 1 : Fin 1024)
  have ex : (outRow ![k, 0] h).view.emb x = i := by
    funext a; apply Fin.ext
    refine (ValueKit.view_emb_slice_whole_unit_val cc0_stg1_0 ![k, 0] S1x1024.size h x a).trans ?_
    fin_cases a
    · exact hi.symm
    · exact Nat.zero_add _
  have ey : (tabRow ![r.val, 0] h').view.emb x = tix r (i 1) := by
    funext a; apply Fin.ext
    refine (ValueKit.view_emb_slice_whole_unit_val main_arg1 ![r.val, 0] S1x1024.size h' x a).trans ?_
    fin_cases a
    · rfl
    · exact Nat.zero_add _
  rw [← ex, View.write_emb_of_mem _ _ (Finset.mem_univ x), View.read_apply, cast_cast, ey, ex]
  rfl

/-! ## Words in scalar memory -/

/-- Cell `k` of a list of 1024 words. -/
def sx (k : ℕ) : S1024.Idx := fun a => match a with | ⟨0, _⟩ => (⟨k % 1024, Nat.mod_lt _ (by decide)⟩ : Fin 1024)

theorem sx_val (k : ℕ) (hk : k < 1024) : (sx k 0).val = k := Nat.mod_eq_of_lt hk

theorem sx_idx (i : S1024.Idx) : sx (i 0).val = i := by
  funext a; apply Fin.ext
  have h : (i 0).val < 1024 := (i 0).isLt
  fin_cases a
  exact Nat.mod_eq_of_lt h

theorem cell_emb (k : ℕ) (hk : k < 1024) (o : Fin 1 → ℕ) (h) (ho : o = ![k]) (x : (Rect.unit (s := S1024) o S1.size h).shape.Idx) :
    (Rect.unit (s := S1024) o S1.size h).emb x = sx k := by
  subst ho
  have hx : (x 0).val < 1 := (x 0).isLt
  funext a; apply Fin.ext
  refine (ValueKit.rect_emb_unit_val (s := S1024) ![k] S1.size h x a).trans ?_
  fin_cases a
  show k + (x 0).val = k % 1024
  rw [Nat.mod_eq_of_lt hk]; omega

theorem ids_read (k : ℕ) (hk : k < 1024) (o) (h) (ho : o = ![k]) (f : (cc0_stg0_0 : Ref sig .tc).ty.Contents (Elt F)) (x) :
    (idsM.access (Rect.unit (s := S1024) o S1.size h)).read (Elt F) f x = f (sx k) := by
  rw [View.read_apply, cast_eq]; exact congrArg f (cell_emb k hk o h ho x)
theorem tok_read (k : ℕ) (hk : k < 1024) (o) (h) (ho : o = ![k]) (f : (cc0_scratch0 : Ref sig .tc).ty.Contents (Elt F)) (x) :
    (tokM.access (Rect.unit (s := S1024) o S1.size h)).read (Elt F) f x = f (sx k) := by
  rw [View.read_apply, cast_eq]; exact congrArg f (cell_emb k hk o h ho x)
theorem row_read (k : ℕ) (hk : k < 1024) (o) (h) (ho : o = ![k]) (f : (cc0_scratch1 : Ref sig .tc).ty.Contents (Elt F)) (x) :
    (rowM.access (Rect.unit (s := S1024) o S1.size h)).read (Elt F) f x = f (sx k) := by
  rw [View.read_apply, cast_eq]; exact congrArg f (cell_emb k hk o h ho x)

theorem sx_inj {j k : ℕ} (hj : j < 1024) (hk : k < 1024) (h : sx j = sx k) : j = k := by
  rw [← sx_val j hj, ← sx_val k hk, h]

theorem tok_write (n : ℕ) (hn : n < 1024) (o) (h) (ho : o = ![n]) (f : (cc0_scratch0 : Ref sig .tc).ty.Contents (Elt F)) (w : BitVec 32)
    (j : ℕ) (hj : j < 1024) :
    (tokM.access (Rect.unit (s := S1024) o S1.size h)).write (Elt F) f (fun _ => w) Finset.univ (sx j) = if j = n then w else f (sx j) := by
  by_cases e : j = n
  · subst e; rw [if_pos rfl]
    have ex : (tokM.access (Rect.unit (s := S1024) o S1.size h)).emb (fun a => ⟨0, by fin_cases a; exact Nat.one_pos⟩) = sx j := cell_emb j hj o h ho _
    rw [← ex, View.write_emb_of_mem _ _ (Finset.mem_univ _), cast_eq]
  · rw [if_neg e]
    refine View.write_of_not_mem _ _ _ fun hm => e ?_
    obtain ⟨x, -, hx⟩ := Finset.mem_map.mp hm
    have ex : (tokM.access (Rect.unit (s := S1024) o S1.size h)).emb x = sx n := cell_emb n hn o h ho x
    exact sx_inj hj hn (hx.symm.trans ex)
theorem row_write (n : ℕ) (hn : n < 1024) (o) (h) (ho : o = ![n]) (f : (cc0_scratch1 : Ref sig .tc).ty.Contents (Elt F)) (w : BitVec 32)
    (j : ℕ) (hj : j < 1024) :
    (rowM.access (Rect.unit (s := S1024) o S1.size h)).write (Elt F) f (fun _ => w) Finset.univ (sx j) = if j = n then w else f (sx j) := by
  by_cases e : j = n
  · subst e; rw [if_pos rfl]
    have ex : (rowM.access (Rect.unit (s := S1024) o S1.size h)).emb (fun a => ⟨0, by fin_cases a; exact Nat.one_pos⟩) = sx j := cell_emb j hj o h ho _
    rw [← ex, View.write_emb_of_mem _ _ (Finset.mem_univ _), cast_eq]
  · rw [if_neg e]
    refine View.write_of_not_mem _ _ _ fun hm => e ?_
    obtain ⟨x, -, hx⟩ := Finset.mem_map.mp hm
    have ex : (rowM.access (Rect.unit (s := S1024) o S1.size h)).emb x = sx n := cell_emb n hn o h ho x
    exact sx_inj hj hn (hx.symm.trans ex)

/-! ## Credits -/

/-- What one row's copy credits a semaphore with. -/
abbrev N : ℕ := (outRow ![0, 0] inb_S1024x1024_S1x1024_0_0).view.dmaCredit
theorem N_pos : 0 < N := View.dmaCredit_pos _ (by decide)
theorem outRow_credit (o h) : (outRow o h).view.dmaCredit = N := rfl
theorem tabRow_credit (o h) : (tabRow o h).view.dmaCredit = N := rfl

end Cert.Embed

end
-- ==== Proof.Protocol.lean ====
/-
  The protocol of the exchange: which semaphore a device's partner signals, what each signal hands over, and in what order
  a device may wait.

  Device `c` and its partner `pr c` hold the two halves of the table. A token is OWNED by the device whose half holds its
  row. The owner copies the row twice: into its own result, and into its partner's. Four cells of device `c`:
    barrier   one unit from the partner: the partner's result rows of the tokens `c` owns, to write into;
    receive   one row's credit per token the partner owns: that row of `c`'s result, written;
    send      one row's credit per token `c` owns: the share of the table read by the remote copy, back;
    gather    one row's credit per token `c` owns: that row of `c`'s result, written, and the share of the table read.
-/
module

public import proofs.«01_k».proof.Proof.Rows
public import proofs.«01_k».proof.Proof.Gen.KernelIdeal.Launch

@[expose] public section

noncomputable section

namespace Cert.Embed

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The resource algebra -/

abbrev UT : Type := Rounds.URounds (GSem nD τ sig) ℕ
/-- The pipeline library's component, the host all-reduce's, the exchange's. -/
abbrev UU : Type := UR sig nD τ × (Sites.UA0 × UT)

/-- The assertions' algebra. -/
abbrev MM (F : FTy → Type) : Type := MT nD τ sig ℕ (Elt F) ℕ UU ℕ

abbrev EP : Emb (UR sig nD τ) (MT nD τ sig ℕ (Elt F) ℕ UU ℕ) := embL
abbrev EC : Emb (Sites.UA0 × UT) (MT nD τ sig ℕ (Elt F) ℕ UU ℕ) := embR
abbrev EA : Emb Sites.UA0 (MT nD τ sig ℕ (Elt F) ℕ UU ℕ) := (Emb.inl : Emb Sites.UA0 (Sites.UA0 × UT)).trans EC
abbrev ET : Emb UT (MT nD τ sig ℕ (Elt F) ℕ UU ℕ) := (Emb.inr : Emb UT (Sites.UA0 × UT)).trans EC

theorem bigSepN_split {s t : Finset ℕ} (h : t ⊆ s) {Φ : ℕ → sProp (MM F)} : bigSep s Φ = iprop(bigSep t Φ ∗ bigSep (s \ t) Φ) :=
  BI.bigSep_sdiff_split h
theorem bigSepN_sep (s : Finset ℕ) (Φ Ψ : ℕ → sProp (MM F)) : bigSep s (fun i => iprop(Φ i ∗ Ψ i)) = iprop(bigSep s Φ ∗ bigSep s Ψ) :=
  BI.bigSep_sep s Φ Ψ
theorem bigSepN_insert {s : Finset ℕ} {i : ℕ} (h : i ∉ s) (Φ : ℕ → sProp (MM F)) : bigSep (insert i s) Φ = iprop(Φ i ∗ bigSep s Φ) :=
  BI.bigSep_insert h
theorem bigSepN_mono (s : Finset ℕ) {Φ Ψ : ℕ → sProp (MM F)} (h : ∀ k ∈ s, Φ k ⊢ Ψ k) : bigSep s Φ ⊢ bigSep s Ψ := BI.bigSep_mono h
theorem sepA (P Q R : sProp (MM F)) : iprop((P ∗ Q) ∗ R) = iprop(P ∗ Q ∗ R) := by
  apply Entails.antisymm
  · show iprop((P ∗ Q) ∗ R) ⊢ iprop(P ∗ Q ∗ R)
    iintro ⟨⟨H1, H2⟩, H3⟩
    isplitl [H1]; · iexact H1
    isplitl [H2]; · iexact H2
    iexact H3
  · show iprop(P ∗ Q ∗ R) ⊢ iprop((P ∗ Q) ∗ R)
    iintro ⟨H1, H2, H3⟩
    isplitl [H1 H2]
    · isplitl [H1]; · iexact H1
      iexact H2
    iexact H3

/-! ## Cells -/

abbrev gS : DmaSem sig := cc0_scratch2.sem
abbrev sS : DmaSem sig := cc0_scratch3.sem
abbrev rS : DmaSem sig := cc0_scratch4.sem

theorem gS_eq : gS = (4 : Fin 7) := rfl
theorem sS_eq : sS = (5 : Fin 7) := rfl
theorem rS_eq : rS = (6 : Fin 7) := rfl

abbrev barCell (c : Dev nD) : GSem nD τ sig := ((c : Thread nD τ), .reg barrier0)
abbrev recvCell (c : Dev nD) : GSem nD τ sig := ((c : Thread nD τ), .dma rS)
abbrev sendCell (c : Dev nD) : GSem nD τ sig := ((c : Thread nD τ), .dma sS)
abbrev gCell (c : Dev nD) : GSem nD τ sig := ((c : Thread nD τ), .dma gS)

theorem recv_ne_bar : (SemLoc.dma rS : SemLoc sig) ≠ .reg barrier0 := fun h => by cases h
theorem send_ne_bar : (SemLoc.dma sS : SemLoc sig) ≠ .reg barrier0 := fun h => by cases h
theorem g_ne_bar : (SemLoc.dma gS : SemLoc sig) ≠ .reg barrier0 := fun h => by cases h
theorem send_ne_recv : (SemLoc.dma sS : SemLoc sig) ≠ .dma rS := by decide
theorem g_ne_recv : (SemLoc.dma gS : SemLoc sig) ≠ .dma rS := by decide
theorem g_ne_send : (SemLoc.dma gS : SemLoc sig) ≠ .dma sS := by decide

/-! ## Contents -/

/- The ids each device sees, by token, and its half of the table. -/
variable (I : Dev nD → ℕ → BitVec 32) (T : Dev nD → (main_arg1 : Ref sig .tc).ty.Contents (Elt F))

/-- The row of device `o`'s half that token `k` names there. -/
def rowOf (o : Dev nD) (k : ℕ) : Fin 8192 := ⟨(row o (I o k)).toNat % 8192, Nat.mod_lt _ (by decide)⟩

theorem rowOf_val (o : Dev nD) (k : ℕ) (h : mine o (I o k)) : (rowOf I o k).val = (row o (I o k)).toNat := Nat.mod_eq_of_lt h

/-- The device that owns token `k`, as device `c` sees it. -/
def owner (c : Dev nD) (k : ℕ) : Dev nD := if mine c (I c k) then c else pr c

/-- The result on device `c`: each token's row, out of its owner's half. -/
def outv (c : Dev nD) : (cc0_stg1_0 : Ref sig .tc).ty.Contents (Elt F) := fun i =>
  T (owner I c ((i : S1024x1024.Idx) 0).val) (tix (rowOf I (owner I c ((i : S1024x1024.Idx) 0).val) ((i : S1024x1024.Idx) 0).val) ((i : S1024x1024.Idx) 1))

/-- The tokens device `c` owns. -/
abbrev Own (c : Dev nD) : Finset ℕ := own c (I c)

/-- The facts of the ids: a pair sees the same ones, and each names a row of the table. -/
structure Ids : Prop where
  pair : ∀ c, I (pr c) = I c
  range : ∀ c k, (I c k).toNat < 16384

variable {I}

theorem owner_mine {c : Dev nD} {k : ℕ} (h : k ∈ Own I c) : owner I c k = c := if_pos ((mem_own _ _ _).mp h).2
theorem owner_pr (hI : Ids I) {c : Dev nD} {k : ℕ} (h : k ∈ Own I c) : owner I (pr c) k = c := by
  have h' := ((mem_own _ _ _).mp h).2
  unfold owner
  rw [hI.pair, if_neg (fun hh => (mine_pr c _ (hI.range c k)).mp hh h'), pr_pr]

variable (I)

/-! ## Points-tos -/

/-- Row `k` of device `c`'s result, at `f`. -/
abbrev rowPts (c : Dev nD) (k : ℕ) (f : (cc0_stg1_0 : Ref sig .tc).ty.Contents (Elt F)) : sProp (MM F) :=
  ((c : Thread nD τ).loc cc0_stg1_0) ↦[rowSet k]{fullShare} f

/-- The share of the table that token `k`'s copy reads with: the remote copy's (`0`), the local one's (`1`). -/
abbrev sh (b k : ℕ) : PosShare TreeShare :=
  Transfers.dealOf (Transfers.dealOf fullShare (Finset.range 2) b) (Finset.range 1024) k

/-- Row `rowOf c k` of device `c`'s half of the table, at token `k`'s share. -/
abbrev tabPts (c : Dev nD) (b k : ℕ) : sProp (MM F) :=
  ((c : Thread nD τ).loc main_arg1) ↦[tabSet (rowOf I c k).val]{sh b k} T c

/-! ## The schedule -/

/-- Paid to `c`'s barrier by its partner. -/
def barPay (c : Dev nD) : sProp (MM F) :=
  iprop((bigSep (Own I c) fun k => iprop(∃ f, rowPts (F := F) (pr c) k f)) ∗ reached ET (recvCell (pr c)) 0)
/-- Paid to `c`'s receive cell by its partner's copy of token `k`'s row. -/
def recvPay (c : Dev nD) (k : ℕ) : sProp (MM F) := rowPts c k (outv I T c)
/-- Paid to `c`'s send cell by its own remote copy. -/
def sendPay (c : Dev nD) (k : ℕ) : sProp (MM F) := tabPts I T c 0 k
/-- Paid to `c`'s gather cell by its own local copy. -/
def gPay (c : Dev nD) (k : ℕ) : sProp (MM F) := iprop(rowPts c k (outv I T c) ∗ tabPts I T c 1 k)

def talkRd : Rounds.Schedule (GSem nD τ sig) ℕ (MM F) where
  duties g r := if r = 0 ∧ g.1.2 = .tc then
      (if g.2 = .reg barrier0 then {0} else if g.2 = .dma rS then Own I (pr g.1.1)
        else if g.2 = .dma sS then Own I g.1.1 else if g.2 = .dma gS then Own I g.1.1 else ∅)
    else ∅
  unitless _ := False
  amount g _ _ := if g.2 = .reg barrier0 then 1 else N
  payload g _ d :=
    if g.2 = .reg barrier0 then barPay I g.1.1
    else if g.2 = .dma rS then recvPay I T g.1.1 d
    else if g.2 = .dma sS then sendPay I T g.1.1 d
    else gPay I T g.1.1 d
  amount_pos g _ _ _ := by
    by_cases h : g.2 = .reg barrier0
    · rw [if_pos h]; exact Nat.one_pos
    · rw [if_neg h]; exact N_pos

instance talkRd_payload_storable (g : GSem nD τ sig) (r : ℕ) (d : ℕ) :
    BI.Storable (upEmb : UEmb _ (MM F)) ((talkRd (F := F) I T).payload g r d) := by
  show BI.Storable upEmb (if g.2 = .reg barrier0 then barPay I g.1.1 else if g.2 = .dma rS then recvPay I T g.1.1 d
    else if g.2 = .dma sS then sendPay I T g.1.1 d else gPay I T g.1.1 d)
  unfold barPay recvPay sendPay gPay
  (repeat' split) <;> infer_instance

section Sched

variable (c : Dev nD)

theorem duties_bar : (talkRd (F := F) I T).duties (barCell c) 0 = {0} := by
  dsimp only [talkRd]; rw [if_pos ⟨rfl, rfl⟩, if_pos rfl]
theorem duties_recv : (talkRd (F := F) I T).duties (recvCell c) 0 = Own I (pr c) := by
  dsimp only [talkRd]; rw [if_pos ⟨rfl, rfl⟩, if_neg recv_ne_bar, if_pos rfl]
theorem duties_send : (talkRd (F := F) I T).duties (sendCell c) 0 = Own I c := by
  dsimp only [talkRd]; rw [if_pos ⟨rfl, rfl⟩, if_neg send_ne_bar, if_neg send_ne_recv, if_pos rfl]
theorem duties_g : (talkRd (F := F) I T).duties (gCell c) 0 = Own I c := by
  dsimp only [talkRd]; rw [if_pos ⟨rfl, rfl⟩, if_neg g_ne_bar, if_neg g_ne_recv, if_neg g_ne_send, if_pos rfl]
theorem duties_later (g : GSem nD τ sig) : ∀ r, 1 ≤ r → (talkRd (F := F) I T).duties g r = ∅ :=
  fun r hr => by dsimp only [talkRd]; rw [if_neg (fun h => by omega)]

theorem amount_bar (d : ℕ) : (talkRd (F := F) I T).amount (barCell c) 0 d = 1 := by dsimp only [talkRd]; exact if_pos rfl
theorem amount_recv (d : ℕ) : (talkRd (F := F) I T).amount (recvCell c) 0 d = N := by dsimp only [talkRd]; exact if_neg recv_ne_bar
theorem amount_send (d : ℕ) : (talkRd (F := F) I T).amount (sendCell c) 0 d = N := by dsimp only [talkRd]; exact if_neg send_ne_bar
theorem amount_g (d : ℕ) : (talkRd (F := F) I T).amount (gCell c) 0 d = N := by dsimp only [talkRd]; exact if_neg g_ne_bar

theorem expect_bar : (talkRd (F := F) I T).expect (barCell c) 0 = 1 := by
  unfold Schedule.expect Schedule.amountOf; rw [duties_bar, Finset.sum_singleton, amount_bar]
theorem expect_recv : (talkRd (F := F) I T).expect (recvCell c) 0 = (Own I (pr c)).card * N := by
  unfold Schedule.expect Schedule.amountOf
  rw [duties_recv, Finset.sum_congr rfl fun d _ => amount_recv I T c d, Finset.sum_const, smul_eq_mul]
theorem expect_send : (talkRd (F := F) I T).expect (sendCell c) 0 = (Own I c).card * N := by
  unfold Schedule.expect Schedule.amountOf
  rw [duties_send, Finset.sum_congr rfl fun d _ => amount_send I T c d, Finset.sum_const, smul_eq_mul]
theorem expect_g : (talkRd (F := F) I T).expect (gCell c) 0 = (Own I c).card * N := by
  unfold Schedule.expect Schedule.amountOf
  rw [duties_g, Finset.sum_congr rfl fun d _ => amount_g I T c d, Finset.sum_const, smul_eq_mul]

theorem payload_bar (d : ℕ) : (talkRd (F := F) I T).payload (barCell c) 0 d = barPay I c := by dsimp only [talkRd]; exact if_pos rfl
theorem payload_recv (d : ℕ) : (talkRd (F := F) I T).payload (recvCell c) 0 d = recvPay I T c d := by
  dsimp only [talkRd]; rw [if_neg recv_ne_bar, if_pos rfl]
theorem payload_send (d : ℕ) : (talkRd (F := F) I T).payload (sendCell c) 0 d = sendPay I T c d := by
  dsimp only [talkRd]; rw [if_neg send_ne_bar, if_neg send_ne_recv, if_pos rfl]
theorem payload_g (d : ℕ) : (talkRd (F := F) I T).payload (gCell c) 0 d = gPay I T c d := by
  dsimp only [talkRd]; rw [if_neg g_ne_bar, if_neg g_ne_recv, if_neg g_ne_send]

theorem rest_bar : bigSep ((talkRd (F := F) I T).duties (barCell c) 0 \ ∅) (fun u => (talkRd (F := F) I T).payload (barCell c) 0 u) = barPay I c := by
  rw [Finset.sdiff_empty, duties_bar, bigSep_singleton, payload_bar]

end Sched

/-! ## What a device owes for the exchange; the levels -/

/-- The partner's receive credit, a row per token owned, and the partner's barrier unit. -/
def K (c : Dev nD) : CellTallies nD τ sig ℕ :=
  tallyAt (recvCell (pr c)) 5 ((Own I c).card * N) + tallyAt (barCell (pr c)) 4 1

/-- Indices are the levels: the staging's waits at 0, the all-reduce's at 1 to 3, the exchange's at 4 to 7. -/
def L (g : GSem nD τ sig) : Finset ℕ := if g.1.2 = .tc then Finset.range 8 else ∅
def lv (_ : GSem nD τ sig) (i : ℕ) : ℕ := i

theorem L_of_ne (g : GSem nD τ sig) (h : g.1.2 ≠ .tc) : L g = ∅ := if_neg h
theorem mem_L (c : Dev nD) (sm : SemLoc sig) {i : ℕ} (hi : i < 8) : i ∈ L ((c : Thread nD τ), sm) := by
  unfold L; rw [if_pos rfl]; exact Finset.mem_range.mpr hi

theorem tally_pos {g g' : GSem nD τ sig} {i j n : ℕ} (h : 0 < tallyAt g i n g' j) : g' = g ∧ j = i := by
  rw [tallyAt_apply] at h
  by_cases hh : g' = g ∧ j = i
  · exact hh
  · rw [if_neg hh] at h; exact absurd h (Nat.lt_irrefl 0)

theorem K_pos {c : Dev nD} {g : GSem nD τ sig} {i : ℕ} (h : 0 < K I c g i) :
    (g = recvCell (pr c) ∧ i = 5) ∨ (g = barCell (pr c) ∧ i = 4) := by
  unfold K at h
  rw [Pi.add_apply, Finsupp.add_apply] at h
  rcases Nat.add_pos_iff_pos_or_pos.mp h with h | h
  · exact .inl (tally_pos h)
  · exact .inr (tally_pos h)

theorem K_level {c : Dev nD} {g : GSem nD τ sig} {i : ℕ} (h : 0 < K I c g i) : i ∈ L g ∧ 4 ≤ i := by
  rcases K_pos I h with ⟨rfl, rfl⟩ | ⟨rfl, rfl⟩
  · exact ⟨mem_L _ _ (by decide), by decide⟩
  · exact ⟨mem_L _ _ (by decide), by decide⟩

theorem mayWait_bar (c : Dev nD) (n : ℕ) :
    (levAts L lv : sProp (MM F)) ⊢ MayWait (c : Thread nD τ) (.reg barrier0) 4 (tallyAt (recvCell (pr c)) 5 n) :=
  MayOwe.of_cut (L := L) (lev := lv) 4 (fun p hp => by rw [Finset.mem_singleton.mp hp]; exact mem_L _ _ (by decide : (4 : ℕ) < 8))
    (fun g u hg => by obtain ⟨rfl, rfl⟩ := tally_pos hg; exact mem_L _ _ (by decide))
    (fun p hp => by rw [Finset.mem_singleton.mp hp]; exact le_refl _)
    (fun g u hg => by obtain ⟨rfl, rfl⟩ := tally_pos hg; exact (by decide : (4 : ℕ) < 5))

/-! ## The exchange's ghost state -/

/-- The invariants device `c` opens, at the names the launch gave them. -/
def invs (κ : GSem nD τ sig → ℕ) (c : Dev nD) : sProp (MM F) :=
  iprop(cellInv ET (talkRd I T) (κ (barCell c)) (barCell c) ∗ cellInv ET (talkRd I T) (κ (sendCell c)) (sendCell c)
    ∗ cellInv ET (talkRd I T) (κ (recvCell c)) (recvCell c) ∗ cellInv ET (talkRd I T) (κ (gCell c)) (gCell c)
    ∗ cellInv ET (talkRd I T) (κ (barCell (pr c))) (barCell (pr c)) ∗ cellInv ET (talkRd I T) (κ (recvCell (pr c))) (recvCell (pr c)))
instance invs_persistent (κ : GSem nD τ sig → ℕ) (c : Dev nD) : BI.Persistent (invs (F := F) I T κ c) := by unfold invs; infer_instance

/-- The tokens device `c` pays its duties with. -/
def tokens (c : Dev nD) : sProp (MM F) :=
  iprop(dutyTok ET (barCell (pr c)) 0 0 ∗ (bigSep (Own I c) fun k => dutyTok ET (recvCell (pr c)) 0 k)
    ∗ (bigSep (Own I c) fun k => dutyTok ET (sendCell c) 0 k) ∗ (bigSep (Own I c) fun k => dutyTok ET (gCell c) 0 k))

/-- What device `c` carries from the launch to the kernel. -/
def ghost (κ : GSem nD τ sig → ℕ) (c : Dev nD) : sProp (MM F) :=
  iprop(invs I T κ c ∗ atPos ET (barCell c) 0 ∅ 0
    ∗ openTok ET (sendCell c) ∗ openTok ET (recvCell c) ∗ openTok ET (gCell c)
    ∗ reached ET (barCell (pr c)) 0 ∗ tokens I c)

/-- The same once the three scoped cells are open. -/
def opened (κ : GSem nD τ sig → ℕ) (c : Dev nD) : sProp (MM F) :=
  iprop(invs I T κ c ∗ atPos ET (barCell c) 0 ∅ 0
    ∗ atPos ET (sendCell c) 0 ∅ 0 ∗ atPos ET (recvCell c) 0 ∅ 0 ∗ atPos ET (gCell c) 0 ∅ 0
    ∗ reached ET (barCell (pr c)) 0 ∗ reached ET (sendCell c) 0 ∗ reached ET (recvCell c) 0 ∗ reached ET (gCell c) 0
    ∗ tokens I c)

end Cert.Embed

end
-- ==== Proof.Scan.lean ====
/-
  The scan of the ids: one trip, and what the two lists hold after it.
-/
module

public import proofs.«01_k».proof.Proof.Protocol
public import proofs.«01_k».proof.Proof.Gen.KernelIdeal.Skeleton

@[expose] public section

noncomputable section

namespace Cert.Embed

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev 𝒱₀ : Variants := Variants.none

abbrev idsPts (c : Dev nD) (f : (cc0_stg0_0 : Ref sig .tc).ty.Contents (Elt F)) : sProp (MM F) :=
  ((c : Thread nD τ).loc cc0_stg0_0) ↦{fullShare} f
abbrev tokPts (c : Dev nD) (f : (cc0_scratch0 : Ref sig .tc).ty.Contents (Elt F)) : sProp (MM F) :=
  ((c : Thread nD τ).loc cc0_scratch0) ↦{fullShare} f
abbrev rwPts (c : Dev nD) (f : (cc0_scratch1 : Ref sig .tc).ty.Contents (Elt F)) : sProp (MM F) :=
  ((c : Thread nD τ).loc cc0_scratch1) ↦{fullShare} f

section Loads

variable {α : Type} {Q : α → sProp (MM F)} {k : BitVec 32 → Prog (TpuEff nD τ sig (Elt F) Λ₀ .tc) α}

theorem wp_ids_load (c : Dev nD) (n : ℕ) (hn : n < 1024) (o h hl hp) (ho : o = ![n]) (f : (cc0_stg0_0 : Ref sig .tc).ty.Contents (Elt F)) :
    idsPts c f ⊢ iprop((idsPts c f -∗ wp frame (wpE (defs₀ (F := F)) 𝒱₀ (c : Thread nD τ) none) Set.univ (k (f (sx n))) Q)
      -∗ wp frame (wpE (defs₀ (F := F)) 𝒱₀ (c : Thread nD τ) none) Set.univ
          ((smemLoad idsM (Rect.unit (s := S1024) o S1.size h) hl hp : Prog (TpuEff nD τ sig (Elt F) Λ₀ .tc) _) >>= k) Q) := by
  have h0 := wp_smemLoadElt (defs := defs₀ (F := F)) 𝒱₀ (c : Thread nD τ) none (Γ := []) Set.univ (m := idsM) (r := Rect.unit (s := S1024) o S1.size h)
    (hw := View.loads_smem_one hp hl) (x := Shape.Idx.first (hl.symm ▸ Nat.one_pos)) (k := k) (Q := Q) (S := Finset.univ) (q := fullShare) (f := f) (Finset.subset_univ _)
  rw [ids_read n hn o h ho f] at h0
  exact h0
theorem wp_tok_load (c : Dev nD) (n : ℕ) (hn : n < 1024) (o h hl hp) (ho : o = ![n]) (f : (cc0_scratch0 : Ref sig .tc).ty.Contents (Elt F)) :
    tokPts c f ⊢ iprop((tokPts c f -∗ wp frame (wpE (defs₀ (F := F)) 𝒱₀ (c : Thread nD τ) none) Set.univ (k (f (sx n))) Q)
      -∗ wp frame (wpE (defs₀ (F := F)) 𝒱₀ (c : Thread nD τ) none) Set.univ
          ((smemLoad tokM (Rect.unit (s := S1024) o S1.size h) hl hp : Prog (TpuEff nD τ sig (Elt F) Λ₀ .tc) _) >>= k) Q) := by
  have h0 := wp_smemLoadElt (defs := defs₀ (F := F)) 𝒱₀ (c : Thread nD τ) none (Γ := []) Set.univ (m := tokM) (r := Rect.unit (s := S1024) o S1.size h)
    (hw := View.loads_smem_one hp hl) (x := Shape.Idx.first (hl.symm ▸ Nat.one_pos)) (k := k) (Q := Q) (S := Finset.univ) (q := fullShare) (f := f) (Finset.subset_univ _)
  rw [tok_read n hn o h ho f] at h0
  exact h0
theorem wp_rw_load (c : Dev nD) (n : ℕ) (hn : n < 1024) (o h hl hp) (ho : o = ![n]) (f : (cc0_scratch1 : Ref sig .tc).ty.Contents (Elt F)) :
    rwPts c f ⊢ iprop((rwPts c f -∗ wp frame (wpE (defs₀ (F := F)) 𝒱₀ (c : Thread nD τ) none) Set.univ (k (f (sx n))) Q)
      -∗ wp frame (wpE (defs₀ (F := F)) 𝒱₀ (c : Thread nD τ) none) Set.univ
          ((smemLoad rowM (Rect.unit (s := S1024) o S1.size h) hl hp : Prog (TpuEff nD τ sig (Elt F) Λ₀ .tc) _) >>= k) Q) := by
  have h0 := wp_smemLoadElt (defs := defs₀ (F := F)) 𝒱₀ (c : Thread nD τ) none (Γ := []) Set.univ (m := rowM) (r := Rect.unit (s := S1024) o S1.size h)
    (hw := View.loads_smem_one hp hl) (x := Shape.Idx.first (hl.symm ▸ Nat.one_pos)) (k := k) (Q := Q) (S := Finset.univ) (q := fullShare) (f := f) (Finset.subset_univ _)
  rw [row_read n hn o h ho f] at h0
  exact h0

variable {k' : Prog (TpuEff nD τ sig (Elt F) Λ₀ .tc) α}

theorem wp_tok_store (c : Dev nD) (n : ℕ) (hn : n < 1024) (o h hx hm) (ho : o = ![n]) (w : BitVec 32) (f : (cc0_scratch0 : Ref sig .tc).ty.Contents (Elt F)) :
    tokPts c f ⊢ iprop((∀ f' : (cc0_scratch0 : Ref sig .tc).ty.Contents (Elt F), ⌜∀ j, j < 1024 → (f' (sx j) : BitVec 32) = if j = n then w else f (sx j)⌝ -∗ tokPts c f'
        -∗ wp frame (wpE (defs₀ (F := F)) 𝒱₀ (c : Thread nD τ) none) Set.univ k' Q)
      -∗ wp frame (wpE (defs₀ (F := F)) 𝒱₀ (c : Thread nD τ) none) Set.univ
          ((Prog.lift (.store tokM (Rect.unit (s := S1024) o S1.size h) (fun _ => w) Finset.univ hx hm) : Prog (TpuEff nD τ sig (Elt F) Λ₀ .tc) _) >>= fun _ => k') Q) := by
  have h0 := wp_store (defs := defs₀ (F := F)) 𝒱₀ (c : Thread nD τ) none (Γ := []) Set.univ (m := tokM) (r := Rect.unit (s := S1024) o S1.size h)
    (w := fun _ => w) (Mk := Finset.univ) (hx := hx) (hm := hm) (k := fun _ => k') (Q := Q) (S := Finset.univ) (f := f) (Finset.subset_univ _)
  iintro Hf Hk
  iapply h0 $$ Hf
  iintro Hf
  iapply Hk $$ %_ %(tok_write n hn o h ho f w) Hf
theorem wp_rw_store (c : Dev nD) (n : ℕ) (hn : n < 1024) (o h hx hm) (ho : o = ![n]) (w : BitVec 32) (f : (cc0_scratch1 : Ref sig .tc).ty.Contents (Elt F)) :
    rwPts c f ⊢ iprop((∀ f' : (cc0_scratch1 : Ref sig .tc).ty.Contents (Elt F), ⌜∀ j, j < 1024 → (f' (sx j) : BitVec 32) = if j = n then w else f (sx j)⌝ -∗ rwPts c f'
        -∗ wp frame (wpE (defs₀ (F := F)) 𝒱₀ (c : Thread nD τ) none) Set.univ k' Q)
      -∗ wp frame (wpE (defs₀ (F := F)) 𝒱₀ (c : Thread nD τ) none) Set.univ
          ((Prog.lift (.store rowM (Rect.unit (s := S1024) o S1.size h) (fun _ => w) Finset.univ hx hm) : Prog (TpuEff nD τ sig (Elt F) Λ₀ .tc) _) >>= fun _ => k') Q) := by
  have h0 := wp_store (defs := defs₀ (F := F)) 𝒱₀ (c : Thread nD τ) none (Γ := []) Set.univ (m := rowM) (r := Rect.unit (s := S1024) o S1.size h)
    (w := fun _ => w) (Mk := Finset.univ) (hx := hx) (hm := hm) (k := fun _ => k') (Q := Q) (S := Finset.univ) (f := f) (Finset.subset_univ _)
  iintro Hf Hk
  iapply h0 $$ Hf
  iintro Hf
  iapply Hk $$ %_ %(row_write n hn o h ho f w) Hf
end Loads

/-- After `n` trips: the tokens owned among the first `n`, and beside each its row. -/
structure Scanned (c : Dev nD) (J : ℕ → BitVec 32) (n : ℕ) (f : (cc0_scratch0 : Ref sig .tc).ty.Contents (Elt F))
    (g : (cc0_scratch1 : Ref sig .tc).ty.Contents (Elt F)) : Prop where
  tok : ∀ j (h : j < (owned c J n).length), (f (sx j) : BitVec 32) = BitVec.ofNat 32 (owned c J n)[j]
  rw : ∀ j (h : j < (owned c J n).length), (g (sx j) : BitVec 32) = row c (J (owned c J n)[j])

def scanInv (c : Dev nD) (J : ℕ → BitVec 32) (X : (cc0_stg0_0 : Ref sig .tc).ty.Contents (Elt F)) (n : ℕ) (acc : BitVec 32) : sProp (MM F) :=
  iprop(⌜acc = BitVec.ofNat 32 (owned c J n).length⌝ ∗ idsPts c X ∗ ∃ f g, ⌜Scanned c J n f g⌝ ∗ tokPts c f ∗ rwPts c g)

theorem scanned_skip {c : Dev nD} {J : ℕ → BitVec 32} {n : ℕ} {f : (cc0_scratch0 : Ref sig .tc).ty.Contents (Elt F)}
    {g : (cc0_scratch1 : Ref sig .tc).ty.Contents (Elt F)} (h : ¬ mine c (J n)) (hs : Scanned c J n f g) : Scanned c J (n + 1) f g := by
  have e : owned c J (n + 1) = owned c J n := (owned_succ c J n).trans (if_neg h)
  constructor
  · rw [e]; exact hs.tok
  · rw [e]; exact hs.rw

theorem scanned_push {c : Dev nD} {J : ℕ → BitVec 32} {n : ℕ} (hn : n < 1024) {f f' : (cc0_scratch0 : Ref sig .tc).ty.Contents (Elt F)}
    {g g' : (cc0_scratch1 : Ref sig .tc).ty.Contents (Elt F)} (h : mine c (J n)) (hs : Scanned c J n f g)
    (hf : ∀ j, j < 1024 → (f' (sx j) : BitVec 32) = if j = (owned c J n).length then BitVec.ofNat 32 n else f (sx j))
    (hg : ∀ j, j < 1024 → (g' (sx j) : BitVec 32) = if j = (owned c J n).length then row c (J n) else g (sx j)) : Scanned c J (n + 1) f' g' := by
  have e : owned c J (n + 1) = owned c J n ++ [n] := (owned_succ c J n).trans (if_pos h)
  have hl := owned_length_le c J n
  constructor
  · rw [e]; intro j hj
    rw [List.length_append, List.length_singleton] at hj
    rw [hf j (by omega)]
    by_cases hj' : j = (owned c J n).length
    · subst hj'; rw [if_pos rfl, List.getElem_concat_length]
      rfl
    · rw [if_neg hj', List.getElem_append_left (by omega)]; exact hs.tok j _
  · rw [e]; intro j hj
    rw [List.length_append, List.length_singleton] at hj
    rw [hg j (by omega)]
    by_cases hj' : j = (owned c J n).length
    · subst hj'; rw [if_pos rfl, List.getElem_concat_length]
      rfl
    · rw [if_neg hj', List.getElem_append_left (by omega)]; exact hs.rw j _

abbrev w2 (c : Dev nD) (J : ℕ → BitVec 32) : BitVec 32 := BitVec.ofNat 32 (owned c J 1024).length

theorem count_next (c : Dev nD) (J : ℕ → BitVec 32) (n : ℕ) :
    Scalar.addi (BitVec.ofNat 32 (owned c J n).length) (Scalar.extui (Scalar.cmpi .ult (Scalar.subi (J n) (base c)) 8192#32))
      = BitVec.ofNat 32 (owned c J (n + 1)).length := by
  show Scalar.addi _ (Scalar.extui (Scalar.cmpi .ult (row c (J n)) 8192#32)) = _
  rw [count_step, owned_succ]
  show BitVec.ofNat 32 (owned c J n).length + (if mine c (J n) then 1#32 else 0#32) = _
  by_cases h : mine c (J n)
  · rw [if_pos h, if_pos h, List.length_append, List.length_singleton, BitVec.ofNat_add]
  · rw [if_neg h, if_neg h, BitVec.add_zero]

set_option maxHeartbeats 1000000 in
theorem scan_step (c : Dev nD) (J : ℕ → BitVec 32) (X : (cc0_stg0_0 : Ref sig .tc).ty.Contents (Elt F)) (hX : ∀ k, k < 1024 → (X (sx k) : BitVec 32) = J k)
    (hw1 hw2 hw3 hw4 hw5) (a b d) (t : Fin k0_t1_loop.trips) (acc : BitVec 32) :
    scanInv c J X t.val acc ⊢ wp frame (wpE (defs₀ (F := F)) 𝒱₀ (c : Thread nD τ) none) Set.univ
      (k0_t1_body (F := F) idsM hw1 tabM hw2 outM hw3 tokM hw4 rowM hw5 a b d c (base c) t acc) (scanInv c J X (t.val + 1)) := by
  have ht := t1_lt t
  have hl := owned_length_le c J t.val
  have hl' : (owned c J t.val).length < 1024 := by omega
  unfold k0_t1_body scanInv
  iintro ⟨%hacc, Hi, %f, %g, %hs, Ht, Hr⟩
  subst hacc
  iapply (wp_ids_load c t.val ht _ _ _ _ (off1_eq t) X) $$ Hi
  iintro Hi
  rw [hX t.val ht]
  simp only [Prog.lift, Prog.bind_op, Prog.bind_ret]
  iapply (wp_assume 𝒱₀ (c : Thread nD τ) none Set.univ (chk1_small c _ (by omega) (J t.val)))
  by_cases hm : mine c (J t.val)
  · rw [dif_pos ((cond_iff c _).mpr hm)]
    simp only [Prog.bind_assoc]
    iapply (wp_tok_load c _ hl' _ _ numel1_S1 rfl (off2_eq _ (by omega)) f) $$ Ht
    iintro Ht
    iapply (wp_tok_store c _ hl' _ _ (View.stores_smem_one rfl numel1_S1) (.inl rfl) (off2_eq _ (by omega)) _ f) $$ Ht
    iintro %f' %hf Ht
    iapply (wp_rw_load c _ hl' _ _ numel1_S1 rfl (off2_eq _ (by omega)) g) $$ Hr
    iintro Hr
    iapply (wp_rw_store c _ hl' _ _ (View.stores_smem_one rfl numel1_S1) (.inl rfl) (off2_eq _ (by omega)) _ g) $$ Hr
    iintro %g' %hg Hr
    simp only [Prog.pure_eq_ret, Prog.bind_ret]
    rw [wp_ret]
    imodintro
    isplitr
    · ipureintro
      exact count_next c J t.val
    isplitl [Hi]; · iexact Hi
    iexists f', g'
    isplitr; · ipureintro; exact scanned_push ht hm hs (fun j hj => (hf j hj).trans (by rw [iv_eq])) hg
    isplitl [Ht]; · iexact Ht
    iexact Hr
  · rw [dif_neg (fun h => hm ((cond_iff c _).mp h))]
    simp only [Prog.pure_eq_ret, Prog.bind_ret]
    rw [wp_ret]
    imodintro
    isplitr
    · ipureintro
      exact count_next c J t.val
    isplitl [Hi]; · iexact Hi
    iexists f, g
    isplitr; · ipureintro; exact scanned_skip hm hs
    isplitl [Ht]; · iexact Ht
    iexact Hr

end Cert.Embed

end
-- ==== Proof.Copies.lean ====
/-
  The two loops that start the copies: one trip of each.
-/
module

public import proofs.«01_k».proof.Proof.Scan

@[expose] public section

noncomputable section

namespace Cert.Embed

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The tokens still to copy -/

/-- The tokens `c` owns, less the first `t`. -/
def left (c : Dev nD) (J : ℕ → BitVec 32) (t : ℕ) : Finset ℕ := ((owned c J 1024).drop t).toFinset

theorem left_zero (c : Dev nD) (J : ℕ → BitVec 32) : left c J 0 = own c J := by unfold left; rw [List.drop_zero, own_eq]
theorem left_end (c : Dev nD) (J : ℕ → BitVec 32) : left c J (owned c J 1024).length = ∅ := by
  unfold left; rw [List.drop_length]; rfl
theorem left_step (c : Dev nD) (J : ℕ → BitVec 32) (t : ℕ) (h : t < (owned c J 1024).length) :
    left c J t = insert (owned c J 1024)[t] (left c J (t + 1)) := by
  unfold left; rw [List.drop_eq_getElem_cons h, List.toFinset_cons]
theorem left_fresh (c : Dev nD) (J : ℕ → BitVec 32) (t : ℕ) (h : t < (owned c J 1024).length) :
    (owned c J 1024)[t] ∉ left c J (t + 1) := by
  unfold left; rw [List.mem_toFinset]
  have hd : ((owned c J 1024).drop t).Nodup := (owned_nodup c J 1024).sublist (List.drop_sublist _ _)
  rw [List.drop_eq_getElem_cons h, List.nodup_cons] at hd
  exact hd.1

theorem bigSep_left (c : Dev nD) (J : ℕ → BitVec 32) (t : ℕ) (h : t < (owned c J 1024).length) (Φ : ℕ → sProp (MM F)) :
    bigSep (left c J t) Φ = iprop(Φ (owned c J 1024)[t] ∗ bigSep (left c J (t + 1)) Φ) := by
  rw [left_step c J t h]; exact BI.bigSep_insert (left_fresh c J t h)

theorem owned_get (c : Dev nD) (J : ℕ → BitVec 32) (t : ℕ) (h : t < (owned c J 1024).length) : (owned c J 1024)[t] ∈ own c J := by
  rw [own_eq, List.mem_toFinset]; exact List.getElem_mem h

/-- Credits of one cell add up. -/
theorem cred_join (g : GSem nD τ sig) (i a b : ℕ) :
    iprop(cred (tallyAt g i a) ∗ cred (tallyAt g i b)) ⊢ (cred (tallyAt g i (a + b)) : sProp (MM F)) := by
  rw [← tallyAt_add]; exact (cred_add _ _).2
theorem cred_part (g : GSem nD τ sig) (i a b : ℕ) :
    (cred (tallyAt g i (a + b)) : sProp (MM F)) ⊢ iprop(cred (tallyAt g i a) ∗ cred (tallyAt g i b)) := by
  rw [← tallyAt_add]; exact (cred_add _ _).1

/-! ## One row's copies -/

variable {I : Dev nD → ℕ → BitVec 32} {T : Dev nD → (main_arg1 : Ref sig .tc).ty.Contents (Elt F)}

/-- What the landing of token `k`'s row leaves is what the result holds there. -/
theorem landed (hI : Ids I) (c c' : Dev nD) (k : ℕ) (hk : k ∈ Own I c) (hc : owner I c' k = c) (o o' h h') (ho : o = ![k, 0])
    (ho' : o' = ![(rowOf I c k).val, 0]) (fd : (cc0_stg1_0 : Ref sig .tc).ty.Contents (Elt F)) :
    (((c' : Thread nD τ).loc cc0_stg1_0) ↦[(outRow o h).view.set]{fullShare}
        (outRow o h).view.write (Elt F) fd ((tabRow o' h').view.read (Elt F) (T c)) Finset.univ : sProp (MM F))
      = rowPts c' k (outv I T c') := by
  rw [outRow_set k o h ho]
  refine pointsTo_congr fun i hi => ?_
  have hi' := (mem_rowSet k i).mp hi
  refine (copied k (rowOf I c k) o o' h h' ho ho' fd (T c) i hi).trans ?_
  show _ = T (owner I c' ((i : S1024x1024.Idx) 0).val) (tix (rowOf I (owner I c' ((i : S1024x1024.Idx) 0).val) ((i : S1024x1024.Idx) 0).val) ((i : S1024x1024.Idx) 1))
  rw [hi', hc]

section Rows

variable {α : Type} {Q : α → sProp (MM F)} {kk : Prog (TpuEff nD τ sig (Elt F) Λ₀ .tc) α}

theorem wp_row_send (hI : Ids I) (κ : GSem nD τ sig → ℕ) (c d : Dev nD) (hd : d = pr c) (k : ℕ) (hk : k ∈ Own I c) (o o' h h') (ho : o = ![k, 0])
    (ho' : o' = ![(rowOf I c k).val, 0]) (hsc hsrc hdst hsem) (n : ℕ) (W : Waits sig ℕ) :
    iprop(invs I T κ c ∗ reached ET (sendCell c) 0 ∗ reached ET (recvCell (pr c)) 0 ∗ tabPts I T c 0 k ∗ (∃ f, rowPts (pr c) k f)
        ∗ dutyTok ET (sendCell c) 0 k ∗ dutyTok ET (recvCell (pr c)) 0 k ∗ owes (c : Thread nD τ) (tallyAt (recvCell (pr c)) 5 (n + N)) W)
      ⊢ iprop((cred (tallyAt (sendCell c) 6 N) -∗ owes (c : Thread nD τ) (tallyAt (recvCell (pr c)) 5 n) W
            -∗ wp frame (wpE (defs₀ (F := F)) 𝒱₀ (c : Thread nD τ) none) Set.univ kk Q)
        -∗ wp frame (wpE (defs₀ (F := F)) 𝒱₀ (c : Thread nD τ) none) Set.univ
            ((Prog.lift (.enqueueDma (tabRow o' h') (.remote (Dev.tc d) (outRow o h) (.dma cc0_scratch3.sem) hsc) (.dma cc0_scratch4.sem) hsrc hdst hsem)
              : Prog (TpuEff nD τ sig (Elt F) Λ₀ .tc) _) >>= fun _ => kk) Q) := by
  subst hd
  unfold invs
  iintro ⟨⟨-, #HIs, -, -, -, #HIr⟩, #Hrs, #Hrr, Ht, ⟨%f, Ho⟩, Hts, Htr, HO⟩ Hk
  iapply (Rounds.wp_send_pointsTo 𝒱₀ ET (talkRd I T) (c : Thread nD τ) none (c' := (pr c : Thread nD τ)) (src := tabRow o' h') (dst := outRow o h)
      (sS := .dma sS) (sem := .dma rS) (q := sh 0 k) (fs := T c) (κ₁ := κ (sendCell c)) (κ₂ := κ (recvCell (pr c)))
      (r₁ := 0) (r₂ := 0) (d₁ := k) (d₂ := k) (fd := f)
      (by rw [duties_send]; exact hk) (by rw [duties_recv, pr_pr]; exact hk)
      5 6 N rfl (amount_send I T c k) (amount_recv I T (pr c) k) (tallyAt (recvCell (pr c)) 5 n) (tallyAt_add _ _ _ _).symm (W := W)
      (by rw [payload_send, tabRow_set _ o' h' ho']; exact BI.Entails.refl _)
      (by rw [payload_recv]; exact Entails.of_eq (landed hI c (pr c) k hk (owner_pr hI hk) o o' h h' ho ho' f))) $$ [Ht Ho Hts Htr HO]
  · isplitr; · iexact HIs
    isplitr; · iexact HIr
    isplitl [Ht]; · rw [tabRow_set _ o' h' ho']; iexact Ht
    isplitl [Ho]; · rw [outRow_set _ o h ho]; iexact Ho
    isplitl [HO]; · iexact HO
    isplitl [Hts]; · iexact Hts
    isplitr; · iexact Hrs
    isplitl [Htr]; · iexact Htr
    iexact Hrr
  iintro ⟨Hc, HO⟩
  iapply Hk $$ Hc HO

theorem wp_row_copy (hI : Ids I) (κ : GSem nD τ sig → ℕ) (c : Dev nD) (k : ℕ) (hk : k ∈ Own I c) (o o' h h') (ho : o = ![k, 0])
    (ho' : o' = ![(rowOf I c k).val, 0]) (hsrc hdst hsem) :
    iprop(invs I T κ c ∗ reached ET (gCell c) 0 ∗ tabPts I T c 1 k ∗ (∃ f, rowPts c k f) ∗ dutyTok ET (gCell c) 0 k)
      ⊢ iprop((cred (tallyAt (gCell c) 7 N) -∗ wp frame (wpE (defs₀ (F := F)) 𝒱₀ (c : Thread nD τ) none) Set.univ kk Q)
        -∗ wp frame (wpE (defs₀ (F := F)) 𝒱₀ (c : Thread nD τ) none) Set.univ
            ((Prog.lift (.enqueueDma (tabRow o' h') (.here (outRow o h)) (.dma cc0_scratch2.sem) hsrc hdst hsem)
              : Prog (TpuEff nD τ sig (Elt F) Λ₀ .tc) _) >>= fun _ => kk) Q) := by
  unfold invs
  iintro ⟨⟨-, -, -, #HIg, -, -⟩, #Hrg, Ht, ⟨%f, Ho⟩, Htk⟩ Hk
  iapply (Rounds.wp_copy_pointsTo 𝒱₀ ET (talkRd I T) (c : Thread nD τ) none (src := tabRow o' h') (dst := outRow o h)
      (sem := .dma gS) (q := sh 1 k) (fs := T c) (fd := f) (r := 0) (d := k) (κ := κ (gCell c))
      (by rw [duties_g]; exact hk) 7 N rfl (amount_g I T c k)
      (by rw [payload_g, tabRow_set _ o' h' ho']; unfold gPay
          exact Entails.of_eq (congrArg (fun X => iprop(X ∗ _)) (landed hI c c k hk (owner_mine hk) o o' h h' ho ho' f)))) $$ [Ht Ho Htk]
  · isplitr; · iexact HIg
    isplitl [Ht]; · rw [tabRow_set _ o' h' ho']; iexact Ht
    isplitl [Ho]; · rw [outRow_set _ o h ho]; iexact Ho
    isplitl [Htk]; · iexact Htk
    iexact Hrg
  iintro Hc
  iapply Hk $$ Hc

end Rows

/-! ## The loops -/

/-- What token `k`'s remote copy takes; what its local copy takes. -/
def sendNeed (I : Dev nD → ℕ → BitVec 32) (T : Dev nD → (main_arg1 : Ref sig .tc).ty.Contents (Elt F)) (c : Dev nD) (k : ℕ) : sProp (MM F) :=
  iprop(tabPts I T c 0 k ∗ (∃ f, rowPts (pr c) k f) ∗ dutyTok ET (sendCell c) 0 k ∗ dutyTok ET (recvCell (pr c)) 0 k)
def gNeed (I : Dev nD → ℕ → BitVec 32) (T : Dev nD → (main_arg1 : Ref sig .tc).ty.Contents (Elt F)) (c : Dev nD) (k : ℕ) : sProp (MM F) :=
  iprop(tabPts I T c 1 k ∗ (∃ f, rowPts c k f) ∗ dutyTok ET (gCell c) 0 k)

abbrev cnt (I : Dev nD → ℕ → BitVec 32) (c : Dev nD) : ℕ := (owned c (I c) 1024).length

theorem cnt_le (c : Dev nD) : cnt I c ≤ 1024 := owned_length_le _ _ _

variable (I T)

def sendInv (κ : GSem nD τ sig → ℕ) (c : Dev nD) (f : (cc0_scratch0 : Ref sig .tc).ty.Contents (Elt F))
    (g : (cc0_scratch1 : Ref sig .tc).ty.Contents (Elt F)) (W : Waits sig ℕ) (t : ℕ) (_ : Unit) : sProp (MM F) :=
  iprop((invs I T κ c ∗ reached ET (sendCell c) 0 ∗ reached ET (recvCell (pr c)) 0) ∗ tokPts c f ∗ rwPts c g
    ∗ bigSep (left c (I c) t) (sendNeed I T c) ∗ owes (c : Thread nD τ) (tallyAt (recvCell (pr c)) 5 ((cnt I c - t) * N)) W
    ∗ cred (tallyAt (sendCell c) 6 (t * N)))

def gInv (κ : GSem nD τ sig → ℕ) (c : Dev nD) (f : (cc0_scratch0 : Ref sig .tc).ty.Contents (Elt F))
    (g : (cc0_scratch1 : Ref sig .tc).ty.Contents (Elt F)) (t : ℕ) (_ : Unit) : sProp (MM F) :=
  iprop((invs I T κ c ∗ reached ET (gCell c) 0) ∗ tokPts c f ∗ rwPts c g
    ∗ bigSep (left c (I c) t) (gNeed I T c) ∗ cred (tallyAt (gCell c) 7 (t * N)))

variable {I T}

/-- The words that name token `owned[t]` and its row, in range. -/
theorem word_facts (c : Dev nD) (f : (cc0_scratch0 : Ref sig .tc).ty.Contents (Elt F)) (g : (cc0_scratch1 : Ref sig .tc).ty.Contents (Elt F))
    (hs : Scanned c (I c) 1024 f g) (t : ℕ) (ht : t < cnt I c) :
    ∃ k, k = (owned c (I c) 1024)[t] ∧ k < 1024 ∧ k ∈ Own I c ∧ (f (sx t) : BitVec 32) = BitVec.ofNat 32 k
      ∧ (g (sx t) : BitVec 32).toNat < 8192 ∧ (g (sx t) : BitVec 32).toNat = (rowOf I c k).val := by
  have hm := owned_get c (I c) t ht
  obtain ⟨h1, h2⟩ := (mem_own _ _ _).mp hm
  refine ⟨_, rfl, h1, hm, hs.tok t ht, ?_, ?_⟩
  · rw [hs.rw t ht]; exact h2
  · rw [hs.rw t ht, rowOf_val I c _ h2]

set_option maxHeartbeats 1000000 in
theorem send_step (hI : Ids I) (κ : GSem nD τ sig → ℕ) (c : Dev nD) (f g W) (hs : Scanned c (I c) 1024 f g)
    (hw1 hw2 hw3 hw4 hw5 hc2) (t : Fin (k0_t2_loop (BitVec.ofNat 32 (cnt I c))).trips) (u : Unit) :
    sendInv (F := F) I T κ c f g W t.val u ⊢ wp frame (wpE (defs₀ (F := F)) 𝒱₀ (c : Thread nD τ) none) Set.univ
      (k0_t2_body (F := F) idsM hw1 tabM hw2 outM hw3 tokM hw4 rowM hw5 cc0_scratch2 cc0_scratch3 cc0_scratch4 c (BitVec.ofNat 32 (cnt I c)) hc2 t u)
      (sendInv I T κ c f g W (t.val + 1)) := by
  have ht : t.val < cnt I c := lt_of_lt_of_eq t.isLt (t2_trips _ (cnt_le c))
  have hn := cnt_le (I := I) c
  obtain ⟨k, hke, hk, hmem, hf, hr, hrow⟩ := word_facts c f g hs t.val ht
  unfold k0_t2_body sendInv
  rw [bigSep_left c (I c) t.val ht, ← hke]
  iintro ⟨⟨#HI, #Hrs, #Hrr⟩, Ht, Hr, ⟨Hn, Hrest⟩, HO, Hc⟩
  iapply (wp_rw_load c t.val (by omega) _ _ numel1_S1 rfl (off3_eq _ hn t) g) $$ Hr
  iintro Hr
  simp only [Prog.lift, Prog.bind_op, Prog.bind_ret]
  iapply (wp_assume 𝒱₀ (c : Thread nD τ) none Set.univ (chk4_small _ hr))
  iapply (wp_tok_load c t.val (by omega) _ _ numel1_S1 rfl (off3_eq _ hn t) f) $$ Ht
  iintro Ht
  rw [hf]
  iapply (wp_assume 𝒱₀ (c : Thread nD τ) none Set.univ (chk3_small k hk))
  unfold sendNeed
  icases Hn with ⟨Htab, Hout, Hts, Htr⟩
  rw [show (cnt I c - t.val) * N = (cnt I c - (t.val + 1)) * N + N by
    rw [show cnt I c - t.val = (cnt I c - (t.val + 1)) + 1 by omega, Nat.succ_mul]]
  iapply (wp_row_send hI κ c _ (dev2_eq c) k hmem _ _ _ _ (off4_eq k (by omega)) ((off5_eq _).trans (by rw [hrow]))
    _ _ _ _ ((cnt I c - (t.val + 1)) * N) W) $$ [Htab Hout Hts Htr HO]
  · isplitr; · iexact HI
    isplitr; · iexact Hrs
    isplitr; · iexact Hrr
    isplitl [Htab]; · iexact Htab
    isplitl [Hout]; · iexact Hout
    isplitl [Hts]; · iexact Hts
    isplitl [Htr]; · iexact Htr
    iexact HO
  iintro Hc' HO
  simp only [Prog.pure_eq_ret]
  rw [wp_ret]
  imodintro
  isplitr
  · isplitr; · iexact HI
    isplitr; · iexact Hrs
    iexact Hrr
  isplitl [Ht]; · iexact Ht
  isplitl [Hr]; · iexact Hr
  isplitl [Hrest]; · iexact Hrest
  isplitl [HO]; · iexact HO
  rw [Nat.succ_mul]
  iapply (cred_join (sendCell c) 6 (t.val * N) N)
  isplitl [Hc]; · iexact Hc
  iexact Hc'

set_option maxHeartbeats 1000000 in
theorem g_step (hI : Ids I) (κ : GSem nD τ sig → ℕ) (c : Dev nD) (f g) (hs : Scanned c (I c) 1024 f g)
    (hw1 hw2 hw3 hw4 hw5 hc2) (t : Fin (k0_t4_loop (BitVec.ofNat 32 (cnt I c))).trips) (u : Unit) :
    gInv (F := F) I T κ c f g t.val u ⊢ wp frame (wpE (defs₀ (F := F)) 𝒱₀ (c : Thread nD τ) none) Set.univ
      (k0_t4_body (F := F) idsM hw1 tabM hw2 outM hw3 tokM hw4 rowM hw5 cc0_scratch2 cc0_scratch3 cc0_scratch4 (BitVec.ofNat 32 (cnt I c)) hc2 t u)
      (gInv I T κ c f g (t.val + 1)) := by
  have ht : t.val < cnt I c := lt_of_lt_of_eq t.isLt (t4_trips _ (cnt_le c))
  have hn := cnt_le (I := I) c
  obtain ⟨k, hke, hk, hmem, hf, hr, hrow⟩ := word_facts c f g hs t.val ht
  unfold k0_t4_body gInv
  rw [bigSep_left c (I c) t.val ht, ← hke]
  iintro ⟨⟨#HI, #Hrg⟩, Ht, Hr, ⟨Hn, Hrest⟩, Hc⟩
  iapply (wp_rw_load c t.val (by omega) _ _ numel1_S1 rfl (off9_eq _ hn t) g) $$ Hr
  iintro Hr
  simp only [Prog.lift, Prog.bind_op, Prog.bind_ret]
  iapply (wp_assume 𝒱₀ (c : Thread nD τ) none Set.univ (chk8_small _ hr))
  iapply (wp_tok_load c t.val (by omega) _ _ numel1_S1 rfl (off9_eq _ hn t) f) $$ Ht
  iintro Ht
  rw [hf]
  iapply (wp_assume 𝒱₀ (c : Thread nD τ) none Set.univ (chk7_small k hk))
  unfold gNeed
  icases Hn with ⟨Htab, Hout, Htk⟩
  iapply (wp_row_copy hI κ c k hmem _ _ _ _ (off10_eq k (by omega)) ((off11_eq _).trans (by rw [hrow])) _ _ _) $$ [Htab Hout Htk]
  · isplitr; · iexact HI
    isplitr; · iexact Hrg
    isplitl [Htab]; · iexact Htab
    isplitl [Hout]; · iexact Hout
    iexact Htk
  iintro Hc'
  simp only [Prog.pure_eq_ret]
  rw [wp_ret]
  imodintro
  isplitr
  · isplitr; · iexact HI
    iexact Hrg
  isplitl [Ht]; · iexact Ht
  isplitl [Hr]; · iexact Hr
  isplitl [Hrest]; · iexact Hrest
  rw [Nat.succ_mul]
  iapply (cred_join (gCell c) 7 (t.val * N) N)
  isplitl [Hc]; · iexact Hc
  iexact Hc'

end Cert.Embed

end
-- ==== Proof.Waits.lean ====
/-
  The loops that wait for the copies: a cell of which every duty is one row, and how far its owner has waited.
-/
module

public import proofs.«01_k».proof.Proof.Copies

@[expose] public section

noncomputable section

namespace Cert.Embed

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (I : Dev nD → ℕ → BitVec 32) (T : Dev nD → (main_arg1 : Ref sig .tc).ty.Contents (Elt F))

/-- After `t` of a cell's `n` waits: the payloads of the copies known to have landed whole, and the credit still to spend. -/
def waitSt (c : Dev nD) (sm : SemLoc sig) (ι n t : ℕ) : sProp (MM F) :=
  iprop(∃ S : Finset ℕ, ⌜S ⊆ (talkRd I T).duties ((c : Thread nD τ), sm) 0 ∧ t * N + ((talkRd I T).duties ((c : Thread nD τ), sm) 0 \ S).card ≤ n * N⌝
    ∗ atPos ET ((c : Thread nD τ), sm) 0 S (t * N)
    ∗ bigSep S (fun d => (talkRd I T).payload ((c : Thread nD τ), sm) 0 d)
    ∗ cred (tallyAt ((c : Thread nD τ), sm) ι ((n - t) * N)))

/-- Nothing owed. -/
abbrev clear (c : Dev nD) : sProp (MM F) := iprop(∃ W, owes (c : Thread nD τ) (0 : CellTallies nD τ sig ℕ) W)

variable {I T}

theorem waitSt_intro (c : Dev nD) (sm : SemLoc sig) (ι n : ℕ) (hn : ((talkRd I T).duties ((c : Thread nD τ), sm) 0).card = n) :
    iprop(atPos ET ((c : Thread nD τ), sm) 0 ∅ 0 ∗ cred (tallyAt ((c : Thread nD τ), sm) ι (n * N))) ⊢ waitSt (F := F) I T c sm ι n 0 := by
  unfold waitSt
  iintro ⟨Ha, Hc⟩
  iexists ∅
  isplitr
  · ipureintro
    refine ⟨Finset.empty_subset _, ?_⟩
    rw [Finset.sdiff_empty, hn, Nat.zero_mul, Nat.zero_add]
    exact Nat.le_mul_of_pos_right n N_pos
  rw [Nat.zero_mul, bigSep_empty, Nat.sub_zero]
  isplitl [Ha]; · iexact Ha
  isplitr; · iempintro
  iexact Hc

theorem wait_step {α : Type} {Q : α → sProp (MM F)} {kk : Prog (TpuEff nD τ sig (Elt F) Λ₀ .tc) α} (κ : ℕ) (c : Dev nD) (sm : SemLoc sig)
    (ι n t : ℕ) (ht : t < n) (he : (talkRd I T).expect ((c : Thread nD τ), sm) 0 = n * N) (w : TpuEff nD τ sig (Elt F) Λ₀ .tc PUnit) (a : ℕ) (ha : a = N)
    (hw : ∀ K : PUnit → sProp (MM F), wpE (defs₀ (F := F)) 𝒱₀ (c : Thread nD τ) none Set.univ w K = waitSpec (c : Thread nD τ) Set.univ sm a K) :
    iprop(cellInv ET (talkRd I T) κ ((c : Thread nD τ), sm) ∗ waitSt I T c sm ι n t ∗ clear c)
      ⊢ iprop((waitSt I T c sm ι n (t + 1) -∗ clear c -∗ wp frame (wpE (defs₀ (F := F)) 𝒱₀ (c : Thread nD τ) none) Set.univ kk Q)
        -∗ wp frame (wpE (defs₀ (F := F)) 𝒱₀ (c : Thread nD τ) none) Set.univ ((Prog.lift w : Prog (TpuEff nD τ sig (Elt F) Λ₀ .tc) _) >>= fun _ => kk) Q) := by
  subst ha
  unfold waitSt
  rw [show (n - t) * N = N + (n - (t + 1)) * N by rw [show n - t = (n - (t + 1)) + 1 by omega, Nat.succ_mul, Nat.add_comm]]
  iintro ⟨#HI, ⟨%S, %hS, Ha, Hp, Hc⟩, ⟨%W, HO⟩⟩ Hk
  ihave Hc2 := (cred_part ((c : Thread nD τ), sm) ι N ((n - (t + 1)) * N)) $$ Hc
  icases Hc2 with ⟨Hc, Hcr⟩
  simp only [Prog.lift, Prog.bind_op, Prog.bind_ret]
  iapply (Rounds.wp_wait 𝒱₀ ET (talkRd I T) (c : Thread nD τ) none (κ := κ) hw (Set.mem_univ _) (cr := Finsupp.single ι N) (O := 0) (W := W)
      {(sm, ι)} (R := 0) (m := t * N) (T := S) (by rw [Util.total_single]) (image_single_subset sm ι N)) $$ [Hc HO Ha]
  · isplitr; · iexact HI
    isplitl [Hc]; · iexact Hc
    isplitl [HO]; · iexact HO
    isplitr; · rw [MayOwe_zero]; iempintro
    iexact Ha
  iintro %S' ⟨%hS', HO, Ha, Hp'⟩
  iapply Hk $$ [Ha Hp Hp' Hcr] [HO]
  · iexists S'
    isplitr
    · ipureintro
      refine ⟨hS'.2.1, ?_⟩
      rw [Nat.succ_mul, ← he]; exact hS'.2.2
    rw [Nat.succ_mul]
    isplitl [Ha]; · iexact Ha
    isplitl [Hp Hp']
    · rw [bigSepN_split hS'.1]
      isplitl [Hp]; · iexact Hp
      iexact Hp'
    iexact Hcr
  · iexists _; iexact HO

/-- After the last wait every payload is in hand and the cell can close. -/
theorem waitSt_close (κ : ℕ) (c : Dev nD) (sm : SemLoc sig) (ι n : ℕ) (he : (talkRd I T).expect ((c : Thread nD τ), sm) 0 = n * N) :
    iprop(cellInv ET (talkRd I T) κ ((c : Thread nD τ), sm) ∗ waitSt (F := F) I T c sm ι n n)
      ⊢ iprop(|={Set.univ}=> (semVal ((c : Thread nD τ), sm) 0
          ∗ bigSep ((talkRd I T).duties ((c : Thread nD τ), sm) 0) (fun d => (talkRd I T).payload ((c : Thread nD τ), sm) 0 d))) := by
  unfold waitSt
  iintro ⟨#HI, ⟨%S, %hS, Ha, Hp, -⟩⟩
  have hc : ((talkRd I T).duties ((c : Thread nD τ), sm) 0 \ S).card = 0 := by have := hS.2; omega
  have hsub : (talkRd I T).duties ((c : Thread nD τ), sm) 0 ⊆ S := Finset.sdiff_eq_empty_iff_subset.mp (Finset.card_eq_zero.mp hc)
  obtain rfl := Finset.Subset.antisymm hS.1 hsub
  imod (Rounds.fupd_skip ET (talkRd I T) (κ := κ) hsub he.symm (Set.mem_univ _)) $$ [Ha] with ⟨Ha, -⟩
  · isplitr; · iexact HI
    iexact Ha
  imod (Rounds.cell_close ET (talkRd I T) (Set.mem_univ κ) id (duties_later I T ((c : Thread nD τ), sm))) $$ [Ha] with Hs
  · isplitr; · iexact HI
    iexact Ha
  imodintro
  isplitl [Hs]; · iexact Hs
  iexact Hp

end Cert.Embed

end
-- ==== Proof.Pieces.lean ====
/-
  The result cut into its rows, and the table into the shares its copies read with.
-/
module

public import proofs.«01_k».proof.Proof.Waits

@[expose] public section

noncomputable section

namespace Cert.Embed

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
variable {I : Dev nD → ℕ → BitVec 32} (T : Dev nD → (main_arg1 : Ref sig .tc).ty.Contents (Elt F))

abbrev outPts (c : Dev nD) (f : (cc0_stg1_0 : Ref sig .tc).ty.Contents (Elt F)) : sProp (MM F) :=
  ((c : Thread nD τ).loc cc0_stg1_0) ↦{fullShare} f
abbrev eltPts (c : Dev nD) (f : (main_arg1 : Ref sig .tc).ty.Contents (Elt F)) : sProp (MM F) :=
  ((c : Thread nD τ).loc main_arg1) ↦{fullShare} f

theorem own_sub (c : Dev nD) : Own I c ⊆ Finset.range 1024 := Finset.filter_subset _ _
theorem own_pr_eq (hI : Ids I) (c : Dev nD) : Own I (pr c) = Finset.range 1024 \ Own I c := by
  unfold Own; rw [hI.pair]; exact own_pr c (I c) fun k _ => hI.range c k
theorem own_card (hI : Ids I) (c : Dev nD) : (Own I (pr c)).card = 1024 - (Own I c).card := by
  unfold Own; rw [hI.pair]; exact card_own_pr c (I c) fun k _ => hI.range c k

theorem out_rows (hI : Ids I) (c : Dev nD) (f : (cc0_stg1_0 : Ref sig .tc).ty.Contents (Elt F)) :
    outPts (F := F) c f = iprop(bigSep (Own I c) (fun k => rowPts c k f) ∗ bigSep (Own I (pr c)) (fun k => rowPts c k f)) := by
  rw [own_pr_eq hI c, ← bigSepN_split (own_sub c)]
  show (((c : Thread nD τ).loc cc0_stg1_0) ↦[Finset.univ]{fullShare} f : sProp (MM F)) = _
  rw [show (Finset.univ : Finset (Idx ((c : Thread nD τ).loc cc0_stg1_0))) = (Finset.range 1024).biUnion rowSet from rowSet_cover]
  exact pointsTo_biUnion _ _ fun a _ b _ hab => rowSet_disjoint hab

theorem any (c : Dev nD) (f : (cc0_stg1_0 : Ref sig .tc).ty.Contents (Elt F)) {s : Finset ℕ} :
    ∀ k ∈ s, rowPts (F := F) c k f ⊢ iprop(∃ f, rowPts c k f) := by
  intro k _
  iintro H; iexists f; iexact H

theorem out_split (hI : Ids I) (c : Dev nD) :
    iprop(∃ f, outPts (F := F) c f) ⊢ iprop(bigSep (Own I c) (fun k => iprop(∃ f, rowPts c k f)) ∗ bigSep (Own I (pr c)) (fun k => iprop(∃ f, rowPts c k f))) := by
  iintro ⟨%f, H⟩
  ihave H := (Entails.of_eq (out_rows hI c f)) $$ H
  icases H with ⟨H1, H2⟩
  isplitl [H1]
  · iapply (bigSepN_mono _ (any c f)); iexact H1
  · iapply (bigSepN_mono _ (any c f)); iexact H2

/-- Token `k`'s share of the table, the row its copy reads apart. -/
abbrev tabAll (c : Dev nD) (b k : ℕ) : sProp (MM F) := ((c : Thread nD τ).loc main_arg1) ↦[Finset.univ]{sh b k} T c
abbrev tabOff (c : Dev nD) (b k : ℕ) : sProp (MM F) :=
  ((c : Thread nD τ).loc main_arg1) ↦[Finset.univ \ tabSet (rowOf I c k).val]{sh b k} T c

theorem tab_one (c : Dev nD) (b k : ℕ) : tabAll (F := F) T c b k = iprop(tabPts I T c b k ∗ tabOff (I := I) T c b k) :=
  Entails.antisymm (pointsTo_split_subset (Finset.subset_univ _)).1 (pointsTo_split_subset (Finset.subset_univ _)).2

/-- What of the table no copy reads. -/
def tabRest (I : Dev nD → ℕ → BitVec 32) (c : Dev nD) (b : ℕ) : sProp (MM F) :=
  iprop(bigSep (Own I c) (fun k => tabOff (I := I) T c b k) ∗ bigSep (Finset.range 1024 \ Own I c) (fun k => tabAll T c b k))

theorem tab_half (c : Dev nD) (b : ℕ) :
    ((((c : Thread nD τ).loc main_arg1) ↦{Transfers.dealOf fullShare (Finset.range 2) b} T c) : sProp (MM F))
      = iprop(bigSep (Own I c) (fun k => tabPts I T c b k) ∗ tabRest T I c b) := by
  rw [Transfers.pointsTo_deal (Finset.range 1024) ⟨0, by decide⟩, bigSepN_split (own_sub (I := I) c)]
  unfold tabRest
  rw [← sepA, ← bigSepN_sep]
  exact congrArg (fun X => iprop(X ∗ _)) (bigSep_congr fun k _ => tab_one T c b k)

theorem tab_split (c : Dev nD) : eltPts (F := F) c (T c)
    = iprop((bigSep (Own I c) (fun k => tabPts I T c 0 k) ∗ tabRest T I c 0) ∗ (bigSep (Own I c) (fun k => tabPts I T c 1 k) ∗ tabRest T I c 1)) := by
  show (((c : Thread nD τ).loc main_arg1) ↦{fullShare} T c : sProp (MM F)) = _
  rw [Transfers.pointsTo_deal (Finset.range 2) ⟨0, by decide⟩, ← tab_half T c 0, ← tab_half T c 1]
  rw [show (bigSep (Finset.range 2) fun i => (((c : Thread nD τ).loc main_arg1) ↦{Transfers.dealOf fullShare (Finset.range 2) i} T c : sProp (MM F)))
      = bigSep (insert 0 {1}) fun i => (((c : Thread nD τ).loc main_arg1) ↦{Transfers.dealOf fullShare (Finset.range 2) i} T c : sProp (MM F)) from rfl,
    bigSepN_insert (by decide), bigSep_singleton]

end Cert.Embed

end
-- ==== Proof.Body.lean ====
/-
  The kernel's body on one device: from the launch's share to the gathered rows, nothing owed and every cell closed.
-/
module

public import proofs.«01_k».proof.Proof.Pieces
public import Idealize.ShloMosaic.Lib.LoopRemainder

@[expose] public section

noncomputable section

namespace Cert.Embed

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (I : Dev nD → ℕ → BitVec 32) (T : Dev nD → (main_arg1 : Ref sig .tc).ty.Contents (Elt F))

/-- Before the body. -/
def bodyPre (κ : GSem nD τ sig → ℕ) (c : Dev nD) (X : (cc0_stg0_0 : Ref sig .tc).ty.Contents (Elt F)) (W : Waits sig ℕ) : sProp (MM F) :=
  iprop(opened I T κ c ∗ cred (tallyAt (barCell c) 4 1) ∗ cred (tallyAt (recvCell c) 5 ((Own I (pr c)).card * N)) ∗ levAts L lv
    ∗ idsPts c X ∗ (∃ f, tokPts c f) ∗ (∃ g, rwPts c g) ∗ (∃ f, outPts c f) ∗ eltPts c (T c) ∗ owes (c : Thread nD τ) (K I c) W)

/-- After it. -/
def bodyPost (c : Dev nD) (X : (cc0_stg0_0 : Ref sig .tc).ty.Contents (Elt F)) : sProp (MM F) :=
  iprop((semVal (barCell c) 0 ∗ semVal (gCell c) 0 ∗ semVal (sendCell c) 0 ∗ semVal (recvCell c) 0)
    ∗ idsPts c X ∗ (∃ f, tokPts c f) ∗ (∃ g, rwPts c g) ∗ outPts c (outv I T c) ∗ eltPts c (T c) ∗ clear c)

/-- Once every remote copy has started. -/
def sent (κ : GSem nD τ sig → ℕ) (c : Dev nD) (X : (cc0_stg0_0 : Ref sig .tc).ty.Contents (Elt F)) : sProp (MM F) :=
  iprop((invs I T κ c ∗ reached ET (gCell c) 0)
    ∗ (∃ f g, ⌜Scanned c (I c) 1024 f g⌝ ∗ tokPts c f ∗ rwPts c g) ∗ idsPts c X
    ∗ (atPos ET (barCell c) (0 + 1) ∅ 0 ∗ atPos ET (sendCell c) 0 ∅ 0 ∗ atPos ET (recvCell c) 0 ∅ 0 ∗ atPos ET (gCell c) 0 ∅ 0)
    ∗ cred (tallyAt (sendCell c) 6 (cnt I c * N)) ∗ cred (tallyAt (recvCell c) 5 ((Own I (pr c)).card * N)) ∗ clear c
    ∗ bigSep (Own I c) (gNeed I T c) ∗ tabRest T I c 0 ∗ tabRest T I c 1)

variable {I T}

abbrev Part : Type := Σ' (v17 : BitVec 32) (_ : k0_chk2 v17) (_ : BitVec 32) (_ : BitVec 32) (_ : BitVec 32), BitVec 32

theorem need_send (c : Dev nD) :
    iprop(bigSep (Own I c) (fun k => tabPts I T c 0 k) ∗ bigSep (Own I c) (fun k => iprop(∃ f, rowPts (F := F) (pr c) k f))
      ∗ bigSep (Own I c) (fun k => dutyTok ET (sendCell c) 0 k) ∗ bigSep (Own I c) (fun k => dutyTok ET (recvCell (pr c)) 0 k))
      ⊢ bigSep (left c (I c) 0) (sendNeed I T c) := by
  rw [left_zero]
  unfold sendNeed
  rw [bigSepN_sep, bigSepN_sep, bigSepN_sep]

theorem need_g (c : Dev nD) :
    iprop(bigSep (Own I c) (fun k => tabPts I T c 1 k) ∗ bigSep (Own I c) (fun k => iprop(∃ f, rowPts (F := F) c k f))
      ∗ bigSep (Own I c) (fun k => dutyTok ET (gCell c) 0 k)) ⊢ bigSep (Own I c) (gNeed I T c) := by
  unfold gNeed
  rw [bigSepN_sep, bigSepN_sep]

theorem card_cnt (c : Dev nD) : (Own I c).card = cnt I c := card_own c (I c)

theorem send_end (κ : GSem nD τ sig → ℕ) (c : Dev nD) (f g W) (u : Unit) :
    sendInv (F := F) I T κ c f g W (k0_t2_loop (BitVec.ofNat 32 (cnt I c))).trips u
      ⊢ iprop(tokPts c f ∗ rwPts c g ∗ owes (c : Thread nD τ) 0 W ∗ cred (tallyAt (sendCell c) 6 (cnt I c * N))) := by
  rw [t2_trips _ (cnt_le c)]
  unfold sendInv
  rw [Nat.sub_self, Nat.zero_mul, tallyAt_zero]
  iintro ⟨-, Htk, Hrw, -, HO, HcS⟩
  isplitl [Htk]; · iexact Htk
  isplitl [Hrw]; · iexact Hrw
  isplitl [HO]; · iexact HO
  iexact HcS

theorem g_end (κ : GSem nD τ sig → ℕ) (c : Dev nD) (f g) (u : Unit) :
    gInv (F := F) I T κ c f g (k0_t4_loop (BitVec.ofNat 32 (cnt I c))).trips u
      ⊢ iprop(tokPts c f ∗ rwPts c g ∗ cred (tallyAt (gCell c) 7 (cnt I c * N))) := by
  rw [t4_trips _ (cnt_le c)]
  unfold gInv
  iintro ⟨-, Htk, Hrw, -, Hc⟩
  isplitl [Htk]; · iexact Htk
  isplitl [Hrw]; · iexact Hrw
  iexact Hc

set_option maxHeartbeats 2000000 in
theorem part1_run (hI : Ids I) (κ : GSem nD τ sig → ℕ) (c : Dev nD) (X : (cc0_stg0_0 : Ref sig .tc).ty.Contents (Elt F))
    (hX : ∀ k, k < 1024 → (X (sx k) : BitVec 32) = I c k) (W : Waits sig ℕ) (hw1 hw2 hw3 hw4 hw5) (Q : Part → sProp (MM F)) :
    iprop(bodyPre I T κ c X W ∗ (∀ (h : k0_chk2 (BitVec.ofNat 32 (cnt I c))) (v : BitVec 32),
        sent I T κ c X -∗ Q ⟨BitVec.ofNat 32 (cnt I c), h, Scalar.subi 1024#32 (BitVec.ofNat 32 (cnt I c)), 0#32, 1#32, v⟩))
      ⊢ wp frame (wpE (defs₀ (F := F)) 𝒱₀ (c : Thread nD τ) none) Set.univ
          (k0_part1 (F := F) idsM hw1 tabM hw2 outM hw3 tokM hw4 rowM hw5 cc0_scratch2 cc0_scratch3 cc0_scratch4) Q := by
  rw [k0_part1_eq_skeleton]
  unfold k0_part1_skel
  simp only [semSignalWord, semWaitWord, Prog.lift, Prog.bind_op, Prog.bind_ret, wp_deviceId]
  rw [dev1_eq]
  unfold bodyPre opened invs tokens
  iintro ⟨⟨⟨⟨#HIbar, #HIsnd, #HIrcv, #HIg, #HIbarP, #HIrcvP⟩, HatB, HatS, HatV, HatG, #HrP, #HrS, #HrV, #HrG, HtB, HtR, HtS, HtG⟩, HcB, HcV, #Hlev, Hids, ⟨%f0, Htk⟩, ⟨%g0, Hrw⟩, Hout, Helt, HO⟩, Hk⟩
  ihave Hout := (out_split hI c) $$ Hout
  icases Hout with ⟨Hmine, Htheirs⟩
  iapply (Rounds.wp_signal 𝒱₀ ET (talkRd I T) (c : Thread nD τ) none (dst := (pr c : Thread nD τ)) (sem := barrier0) (r := 0) (d := 0) (κ := κ (barCell (pr c)))
      (k' := 1) (by rw [duties_bar]; exact Finset.mem_singleton_self _) (amount_bar I T (pr c) 0) 4
      (tallyAt (recvCell (pr c)) 5 ((Own I c).card * N)) rfl (W := W)) $$ [HO HtB Htheirs]
  · isplitr; · iexact HIbarP
    isplitl [HO]; · iexact HO
    isplitl [HtB]; · iexact HtB
    isplitl [Htheirs]
    · rw [payload_bar]; unfold barPay; rw [pr_pr]
      isplitl [Htheirs]; · iexact Htheirs
      iexact HrV
    · iexact HrP
  iintro HO
  iapply (Rounds.wp_wait_rest_token 𝒱₀ ET (talkRd I T) (c : Thread nD τ) none (κ := κ (barCell c))
      (wpE_semWait_eq 𝒱₀ (c : Thread nD τ) none Set.univ) (Set.mem_univ _) 4 (O := tallyAt (recvCell (pr c)) 5 ((Own I c).card * N)) (W := W) (R := 0) (m := 0) (T := ∅)
      ((Nat.zero_add 1).trans (expect_bar I T c).symm)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq (rest_bar I T c)) $$ Hpay
  unfold barPay
  icases Hp with ⟨Hrows, #HrVN⟩
  -- the scan
  iapply (Scf.wp_for_bind _ _ _ _ _ _ k0_t1_ok 0#32 _ (scanInv c (I c) X)
      (fun t acc => scan_step c (I c) X hX hw1 hw2 hw3 hw4 hw5 cc0_scratch2 cc0_scratch3 cc0_scratch4 t acc)) $$ [Hids Htk Hrw]
  · unfold scanInv
    isplitr; · ipureintro; rfl
    isplitl [Hids]; · iexact Hids
    iexists f0, g0
    isplitr; · ipureintro; exact ⟨fun j h => absurd h (Nat.not_lt_zero j), fun j h => absurd h (Nat.not_lt_zero j)⟩
    isplitl [Htk]; · iexact Htk
    iexact Hrw
  iintro %acc Hscan
  unfold scanInv
  icases Hscan with ⟨%hacc, Hids, %f, %g, %hs, Htk, Hrw⟩
  change acc = BitVec.ofNat 32 (owned c (I c) k0_t1_loop.trips).length at hacc
  change Scanned c (I c) k0_t1_loop.trips f g at hs
  rw [t1_trips] at hacc hs
  subst hacc
  have hn := cnt_le (I := I) c
  iapply (wp_assume 𝒱₀ (c : Thread nD τ) none Set.univ (chk2_small _ hn))
  -- the remote copies
  ihave Helt := (Entails.of_eq (tab_split T c (I := I))) $$ Helt
  icases Helt with ⟨⟨Ht0, Hr0⟩, Ht1, Hr1⟩
  iapply (Scf.wp_for_bind _ _ _ _ _ _ (k0_t2_ok _ (chk2_small _ hn)) ⟨⟩ _ (sendInv I T κ c f g _)
      (fun t u => send_step hI κ c f g _ hs hw1 hw2 hw3 hw4 hw5 (chk2_small _ hn) t u)) $$ [Ht0 Hrows HtS HtR Htk Hrw HO]
  · unfold sendInv invs
    isplitr
    · isplitr
      · isplitr; · iexact HIbar
        isplitr; · iexact HIsnd
        isplitr; · iexact HIrcv
        isplitr; · iexact HIg
        isplitr; · iexact HIbarP
        iexact HIrcvP
      isplitr; · iexact HrS
      iexact HrVN
    isplitl [Htk]; · iexact Htk
    isplitl [Hrw]; · iexact Hrw
    isplitl [Ht0 Hrows HtS HtR]
    · iapply (need_send c)
      isplitl [Ht0]; · iexact Ht0
      isplitl [Hrows]; · iexact Hrows
      isplitl [HtS]; · iexact HtS
      iexact HtR
    isplitl [HO]
    · rw [Nat.sub_zero, card_cnt]; iexact HO
    rw [Nat.zero_mul, tallyAt_zero, cred_zero]; iempintro
  iintro %u Hsent
  ihave Hsent := (send_end κ c f g _ u) $$ Hsent
  icases Hsent with ⟨Htk, Hrw, HO, HcS⟩
  rw [show Scf.Loop.for (k0_t3_loop (BitVec.ofNat 32 (cnt I c))) _ _ _ = _ from Scf.for_rem_eq _ _ _ _ _]
  simp only [Prog.bind_ret, Prog.pure_eq_ret]
  rw [wp_ret]
  imodintro
  iapply Hk $$ %(chk2_small _ hn)
  unfold sent invs
  isplitr
  · isplitr
    · isplitr; · iexact HIbar
      isplitr; · iexact HIsnd
      isplitr; · iexact HIrcv
      isplitr; · iexact HIg
      isplitr; · iexact HIbarP
      iexact HIrcvP
    iexact HrG
  isplitl [Htk Hrw]
  · iexists f, g
    isplitr; · ipureintro; exact hs
    isplitl [Htk]; · iexact Htk
    iexact Hrw
  isplitl [Hids]; · iexact Hids
  isplitl [HatB HatS HatV HatG]
  · isplitl [HatB]; · iexact HatB
    isplitl [HatS]; · iexact HatS
    isplitl [HatV]; · iexact HatV
    iexact HatG
  isplitl [HcS]; · iexact HcS
  isplitl [HcV]; · iexact HcV
  isplitl [HO]; · iexists _; iexact HO
  isplitl [Ht1 Hmine HtG]
  · iapply (need_g c)
    isplitl [Ht1]; · iexact Ht1
    isplitl [Hmine]; · iexact Hmine
    iexact HtG
  isplitl [Hr0]; · iexact Hr0
  iexact Hr1

/-! ## The waiting loops -/

theorem expect_send' (c : Dev nD) : (talkRd (F := F) I T).expect (sendCell c) 0 = cnt I c * N := by rw [expect_send, card_cnt]
theorem expect_g' (c : Dev nD) : (talkRd (F := F) I T).expect (gCell c) 0 = cnt I c * N := by rw [expect_g, card_cnt]
theorem expect_recv' (hI : Ids I) (c : Dev nD) : (talkRd (F := F) I T).expect (recvCell c) 0 = (1024 - cnt I c) * N := by
  rw [expect_recv, own_card hI, card_cnt]

/-- The device waiting for its own copies; waiting for its partner's. -/
def ownInv (I : Dev nD → ℕ → BitVec 32) (T : Dev nD → (main_arg1 : Ref sig .tc).ty.Contents (Elt F)) (κ : GSem nD τ sig → ℕ) (c : Dev nD) (t : ℕ) (_ : Unit) :
    sProp (MM F) :=
  iprop(invs I T κ c ∗ waitSt I T c (.dma gS) 7 (cnt I c) t ∗ waitSt I T c (.dma sS) 6 (cnt I c) t ∗ clear c)
def recvInv (I : Dev nD → ℕ → BitVec 32) (T : Dev nD → (main_arg1 : Ref sig .tc).ty.Contents (Elt F)) (κ : GSem nD τ sig → ℕ) (c : Dev nD) (t : ℕ) (_ : Unit) :
    sProp (MM F) :=
  iprop(invs I T κ c ∗ waitSt I T c (.dma rS) 5 (1024 - cnt I c) t ∗ clear c)

theorem own_wait (κ : GSem nD τ sig → ℕ) (c : Dev nD) (hw1 hw2 hw3 hw4 hw5 hc2) (t : Fin (k0_t6_loop (BitVec.ofNat 32 (cnt I c))).trips) (u : Unit) :
    ownInv (F := F) I T κ c t.val u ⊢ wp frame (wpE (defs₀ (F := F)) 𝒱₀ (c : Thread nD τ) none) Set.univ
      (k0_t6_body (F := F) idsM hw1 tabM hw2 outM hw3 tokM hw4 rowM hw5 cc0_scratch2 cc0_scratch3 cc0_scratch4 (BitVec.ofNat 32 (cnt I c)) hc2 t u)
      (ownInv I T κ c (t.val + 1)) := by
  have ht : t.val < cnt I c := lt_of_lt_of_eq t.isLt (t6_trips _ (cnt_le c))
  unfold k0_t6_body ownInv
  iintro ⟨#HI, Hg, Hs, HO⟩
  iapply (wait_step (I := I) (T := T) (κ (gCell c)) c (.dma gS) 7 (cnt I c) t.val ht (expect_g' c) _ _ (outRow_credit _ _)
    (wpE_waitDma2_eq 𝒱₀ (c : Thread nD τ) none Set.univ)) $$ [Hg HO]
  · unfold invs
    icases HI with ⟨-, -, -, #HIg, -, -⟩
    isplitr; · iexact HIg
    isplitl [Hg]; · iexact Hg
    iexact HO
  iintro Hg HO
  iapply (wait_step (I := I) (T := T) (κ (sendCell c)) c (.dma sS) 6 (cnt I c) t.val ht (expect_send' c) _ _ (tabRow_credit _ inb_S8192x1024_S1x1024_0_0)
    (wpE_waitDma2_eq 𝒱₀ (c : Thread nD τ) none Set.univ)) $$ [Hs HO]
  · unfold invs
    icases HI with ⟨-, #HIs, -, -, -, -⟩
    isplitr; · iexact HIs
    isplitl [Hs]; · iexact Hs
    iexact HO
  iintro Hs HO
  simp only [Prog.pure_eq_ret]
  rw [wp_ret]
  imodintro
  isplitr; · iexact HI
  isplitl [Hg]; · iexact Hg
  isplitl [Hs]; · iexact Hs
  iexact HO

theorem recv_wait (hI : Ids I) (κ : GSem nD τ sig → ℕ) (c : Dev nD) (hw1 hw2 hw3 hw4 hw5 hc2) (t : Fin (k0_t8_loop (BitVec.ofNat 32 (cnt I c))).trips) (u : Unit) :
    recvInv (F := F) I T κ c t.val u ⊢ wp frame (wpE (defs₀ (F := F)) 𝒱₀ (c : Thread nD τ) none) Set.univ
      (k0_t8_body (F := F) idsM hw1 tabM hw2 outM hw3 tokM hw4 rowM hw5 cc0_scratch2 cc0_scratch3 cc0_scratch4 (BitVec.ofNat 32 (cnt I c)) hc2 t u)
      (recvInv I T κ c (t.val + 1)) := by
  have ht : t.val < 1024 - cnt I c := lt_of_lt_of_eq t.isLt (t8_trips _ (cnt_le c))
  unfold k0_t8_body recvInv
  iintro ⟨#HI, Hr, HO⟩
  iapply (wait_step (I := I) (T := T) (κ (recvCell c)) c (.dma rS) 5 (1024 - cnt I c) t.val ht (expect_recv' hI c) _ _ (outRow_credit _ _)
    (wpE_waitDma2_eq 𝒱₀ (c : Thread nD τ) none Set.univ)) $$ [Hr HO]
  · unfold invs
    icases HI with ⟨-, -, #HIr, -, -, -⟩
    isplitr; · iexact HIr
    isplitl [Hr]; · iexact Hr
    iexact HO
  iintro Hr HO
  simp only [Prog.pure_eq_ret]
  rw [wp_ret]
  imodintro
  isplitr; · iexact HI
  isplitl [Hr]; · iexact Hr
  iexact HO

theorem own_end (κ : GSem nD τ sig → ℕ) (c : Dev nD) (u : Unit) :
    ownInv (F := F) I T κ c (k0_t6_loop (BitVec.ofNat 32 (cnt I c))).trips u ⊢ ownInv I T κ c (cnt I c) u := by
  rw [t6_trips _ (cnt_le c)]
theorem recv_end (κ : GSem nD τ sig → ℕ) (c : Dev nD) (u : Unit) :
    recvInv (F := F) I T κ c (k0_t8_loop (BitVec.ofNat 32 (cnt I c))).trips u ⊢ recvInv I T κ c (1024 - cnt I c) u := by
  rw [t8_trips _ (cnt_le c)]

theorem paid_g (c : Dev nD) : (bigSep ((talkRd I T).duties (gCell c) 0) fun d => (talkRd I T).payload (gCell c) 0 d)
    ⊢ iprop(bigSep (Own I c) (fun k => rowPts (F := F) c k (outv I T c)) ∗ bigSep (Own I c) (fun k => tabPts I T c 1 k)) := by
  rw [duties_g, bigSep_congr fun k _ => payload_g I T c k]
  unfold gPay
  rw [bigSepN_sep]
theorem paid_send (c : Dev nD) : (bigSep ((talkRd I T).duties (sendCell c) 0) fun d => (talkRd I T).payload (sendCell c) 0 d)
    ⊢ (bigSep (Own I c) (fun k => tabPts I T c 0 k) : sProp (MM F)) := by
  rw [duties_send, bigSep_congr fun k _ => payload_send I T c k]
  unfold sendPay
  exact BI.Entails.refl _
theorem paid_recv (c : Dev nD) : (bigSep ((talkRd I T).duties (recvCell c) 0) fun d => (talkRd I T).payload (recvCell c) 0 d)
    ⊢ (bigSep (Own I (pr c)) (fun k => rowPts c k (outv I T c)) : sProp (MM F)) := by
  rw [duties_recv, bigSep_congr fun k _ => payload_recv I T c k]
  unfold recvPay
  exact BI.Entails.refl _

set_option maxHeartbeats 2000000 in
theorem body_run (hI : Ids I) (κ : GSem nD τ sig → ℕ) (c : Dev nD) (X : (cc0_stg0_0 : Ref sig .tc).ty.Contents (Elt F))
    (hX : ∀ k, k < 1024 → (X (sx k) : BitVec 32) = I c k) (W : Waits sig ℕ) (hw1 hw2 hw3 hw4 hw5) (Q : PUnit → sProp (MM F)) :
    iprop(bodyPre I T κ c X W ∗ (bodyPost I T c X -∗ Q ⟨⟩))
      ⊢ wp frame (wpE (defs₀ (F := F)) 𝒱₀ (c : Thread nD τ) none) Set.univ
          (cc0_body (F := F) idsM hw1 tabM hw2 outM hw3 tokM hw4 rowM hw5 cc0_scratch2 cc0_scratch3 cc0_scratch4) Q := by
  rw [cc0_body_eq_skeleton]
  unfold cc0_body_skel
  rw [wp_bind]
  iintro ⟨Hpre, Hk⟩
  iapply (part1_run hI κ c X hX W hw1 hw2 hw3 hw4 hw5)
  isplitl [Hpre]; · iexact Hpre
  iintro %h %v Hsent
  unfold sent
  icases Hsent with ⟨⟨#HI, #HrG⟩, ⟨%f, %g, %hs, Htk, Hrw⟩, Hids, ⟨HatB, HatS, HatV, HatG⟩, HcS, HcV, HO, Hneed, Hr0, Hr1⟩
  have hn := cnt_le (I := I) c
  -- the local copies
  iapply (Scf.wp_for_bind _ _ _ _ _ _ (k0_t4_ok _ h) ⟨⟩ _ (gInv I T κ c f g)
      (fun t u => g_step hI κ c f g hs hw1 hw2 hw3 hw4 hw5 h t u)) $$ [Hneed Htk Hrw]
  · unfold gInv
    isplitr
    · isplitr; · iexact HI
      iexact HrG
    isplitl [Htk]; · iexact Htk
    isplitl [Hrw]; · iexact Hrw
    isplitl [Hneed]
    · rw [left_zero]; iexact Hneed
    rw [Nat.zero_mul, tallyAt_zero, cred_zero]; iempintro
  iintro %u Hg
  ihave Hg := (g_end κ c f g u) $$ Hg
  icases Hg with ⟨Htk, Hrw, HcG⟩
  rw [show Scf.Loop.for (k0_t5_loop (BitVec.ofNat 32 (cnt I c))) _ _ _ = _ from Scf.for_rem_eq _ _ _ _ _]
  simp only [Prog.bind_ret]
  -- the waits for the own copies
  iapply (Scf.wp_for_bind _ _ _ _ _ _ (k0_t6_ok _ h) ⟨⟩ _ (ownInv I T κ c)
      (fun t u => own_wait κ c hw1 hw2 hw3 hw4 hw5 h t u)) $$ [HatG HatS HcG HcS HO]
  · unfold ownInv
    isplitr; · iexact HI
    isplitl [HatG HcG]
    · iapply (waitSt_intro c (.dma gS) 7 (cnt I c) (by rw [duties_g, card_cnt]))
      isplitl [HatG]; · iexact HatG
      iexact HcG
    isplitl [HatS HcS]
    · iapply (waitSt_intro c (.dma sS) 6 (cnt I c) (by rw [duties_send, card_cnt]))
      isplitl [HatS]; · iexact HatS
      iexact HcS
    iexact HO
  iintro %u' Hown
  ihave Hown := (own_end κ c u') $$ Hown
  unfold ownInv
  icases Hown with ⟨-, HwG, HwS, HO⟩
  rw [show Scf.Loop.for (k0_t7_loop (BitVec.ofNat 32 (cnt I c))) _ _ _ = _ from Scf.for_rem_eq _ _ _ _ _]
  simp only [Prog.bind_ret]
  -- the waits for the partner's
  iapply (Scf.wp_for_bind _ _ _ _ _ _ (k0_t8_ok _ h) ⟨⟩ _ (recvInv I T κ c)
      (fun t u => recv_wait hI κ c hw1 hw2 hw3 hw4 hw5 h t u)) $$ [HatV HcV HO]
  · unfold recvInv
    isplitr; · iexact HI
    isplitl [HatV HcV]
    · iapply (waitSt_intro c (.dma rS) 5 (1024 - cnt I c) (by rw [duties_recv, own_card hI, card_cnt]))
      isplitl [HatV]; · iexact HatV
      rw [own_card hI, card_cnt]; iexact HcV
    iexact HO
  iintro %u'' Hrecv
  ihave Hrecv := (recv_end κ c u'') $$ Hrecv
  unfold recvInv
  icases Hrecv with ⟨-, HwV, HO⟩
  rw [show Scf.Loop.for (k0_t9_loop (BitVec.ofNat 32 (cnt I c))) _ _ _ = _ from Scf.for_rem_eq _ _ _ _ _]
  simp only [Prog.bind_ret, Prog.pure_eq_ret]
  rw [wp_ret]
  unfold invs
  icases HI with ⟨#HIbar, #HIsnd, #HIrcv, #HIg, -, -⟩
  imod (Rounds.cell_close ET (talkRd I T) (Set.mem_univ (κ (barCell c))) id (duties_later I T (barCell c))) $$ [HatB] with HsB
  · isplitr; · iexact HIbar
    iexact HatB
  imod (waitSt_close (κ (gCell c)) c (.dma gS) 7 (cnt I c) (expect_g' c)) $$ [HwG] with ⟨HsG, HpG⟩
  · isplitr; · iexact HIg
    iexact HwG
  imod (waitSt_close (κ (sendCell c)) c (.dma sS) 6 (cnt I c) (expect_send' c)) $$ [HwS] with ⟨HsS, HpS⟩
  · isplitr; · iexact HIsnd
    iexact HwS
  imod (waitSt_close (κ (recvCell c)) c (.dma rS) 5 (1024 - cnt I c) (expect_recv' hI c)) $$ [HwV] with ⟨HsV, HpV⟩
  · isplitr; · iexact HIrcv
    iexact HwV
  ihave HpG := (paid_g c) $$ HpG
  icases HpG with ⟨Hmine, Ht1⟩
  ihave Ht0 := (paid_send c) $$ HpS
  ihave Htheirs := (paid_recv c) $$ HpV
  imodintro
  iapply Hk
  unfold bodyPost
  isplitl [HsB HsG HsS HsV]
  · isplitl [HsB]; · iexact HsB
    isplitl [HsG]; · iexact HsG
    isplitl [HsS]; · iexact HsS
    iexact HsV
  isplitl [Hids]; · iexact Hids
  isplitl [Htk]; · iexists f; iexact Htk
  isplitl [Hrw]; · iexists g; iexact Hrw
  isplitl [Hmine Htheirs]
  · iapply (Entails.of_eq (out_rows hI c (outv I T c)).symm)
    isplitl [Hmine]; · iexact Hmine
    iexact Htheirs
  isplitl [Ht0 Ht1 Hr0 Hr1]
  · iapply (Entails.of_eq (tab_split T c (I := I)).symm)
    isplitl [Ht0 Hr0]
    · isplitl [Ht0]; · iexact Ht0
      iexact Hr0
    isplitl [Ht1]; · iexact Ht1
    iexact Hr1
  iexact HO

end Cert.Embed

end
-- ==== Proof.Vals.lean ====
/-
  What the devices hold when the kernel starts: the ids that each pair has agreed on, and its halves of the table.
-/
module

public import proofs.«01_k».proof.Proof.Body
public import proofs.«01_k».proof.Proof.Gen.KernelIdeal.Launch
public import proofs.«01_k».proof.Proof.Gen.KernelIdeal.Points
public import Idealize.ShloMosaic.Lib.StableHlo.CollectiveRules
public import Idealize.ShloMosaic.Lib.Pipeline.CollectiveSegs
public import Idealize.ShloMosaic.Lib.Pipeline.Value

@[expose] public section

noncomputable section

namespace Cert.Embed

open Cert.KernelIdeal Cert.KernelIdeal.Gen
open Idealize.ShloMosaic
open Idealize.ShloMosaic.TcCoe
open Idealize.SL Idealize.SL.RA Idealize.SL.BI

variable {F : FTy → Type} [FloatOps F]
variable (m : (ℓ : Loc nD τ sig) → Buf (Elt F) ℓ)

/-- A device's buffers at launch. -/
abbrev V₀ (c : Dev nD) : Valuation τ sig (Elt F) := fun b => m ((c : Dev nD), b)

/-- A device's buffers once the pairs have agreed on their ids. -/
abbrev V₁ (c : Dev nD) : Valuation τ sig (Elt F) := (ar0 (F := F)).after₀ (V₀ m) c

/-- The ids a device is given. -/
def given (c : Dev nD) : S1024.Idx → BitVec 32 := m ((c : Thread nD τ).loc main_arg0)

/-- The two devices of a pair, in order. -/
def lo (c : Dev nD) : Dev nD := (ar0 (F := F)).peer c 0
def hi (c : Dev nD) : Dev nD := (ar0 (F := F)).peer c 1

theorem lo_pr (c : Dev nD) : lo (F := F) (pr c) = lo (F := F) c := by
  have : ∀ c : Dev nD, ar0_mem ((ar0_pos (pr c)).1, 0) = ar0_mem ((ar0_pos c).1, 0) := by decide
  exact this c
theorem hi_pr (c : Dev nD) : hi (F := F) (pr c) = hi (F := F) c := by
  have : ∀ c : Dev nD, ar0_mem ((ar0_pos (pr c)).1, 1) = ar0_mem ((ar0_pos c).1, 1) := by decide
  exact this c

/-- The ids a pair agrees on: the greater of the two it is given, position by position. -/
def agreed (c : Dev nD) : S1024.Idx → BitVec 32 := fun i => IntOp.maxsi (given m (lo (F := F) c) i) (given m (hi (F := F) c) i)

theorem V₁_ids (c : Dev nD) : V₁ m c main_v1 = agreed m c := by
  show (ar0 (F := F)).after₀ (V₀ m) c (ar0 (F := F)).result = _
  rw [AllReduce.Cfg.after₀_result]
  rfl

theorem V₁_arg0 (c : Dev nD) : V₁ m c main_arg0 = m ((c : Thread nD τ).loc main_arg0) := (ar0 (F := F)).after₀_operand (V₀ m) c

theorem agreed_pr (c : Dev nD) : agreed m (pr c) = agreed m c := by
  unfold agreed; rw [lo_pr, hi_pr]

/-- Every given id names a row of the table. -/
def InTable : Prop := ∀ (c : Dev nD) (i : S1024.Idx), (given m c i).toNat < 16384

variable {m} in
theorem agreed_range (h : InTable m) (c : Dev nD) (i : S1024.Idx) : (agreed m c i).toNat < 16384 := by
  unfold agreed IntOp.maxsi
  split
  · exact h _ i
  · exact h _ i

/-- Where every device is given the same ids, those are what the pairs agree on. -/
theorem agreed_same (X : S1024.Idx → BitVec 32) (h : ∀ c, given m c = X) (c : Dev nD) : agreed m c = X := by
  funext i
  unfold agreed IntOp.maxsi
  rw [h, h]
  split <;> rfl

/-- The id at position `k`, on each device. -/
def I (c : Dev nD) (k : ℕ) : BitVec 32 := agreed m c (sx k)

/-- Each device's half of the table. -/
def T (c : Dev nD) : (main_arg1 : Ref sig .tc).ty.Contents (Elt F) := m ((c : Thread nD τ).loc main_arg1)

variable {m} in
theorem ids_of (h : InTable m) : Ids (I m) where
  pair c := by funext k; unfold I; rw [agreed_pr]
  range c k := agreed_range h c _

/-- The rows a device ends with. -/
abbrev rows (c : Dev nD) : (main_v2 : Ref sig .tc).ty.Contents (Elt F) := outv (I m) (T m) c

end Cert.Embed
end
-- ==== Proof.Region.lean ====
/-
  The kernel as a region of @main: entered with the agreed ids and the launch's ghost state, left with the rows gathered.
-/
module

public import proofs.«01_k».proof.Proof.Vals
public import Idealize.ShloMosaic.Lib.Pipeline.Regions
public import Idealize.ShloMosaic.Lib.Pipeline.RegionTalk
public import Idealize.ShloMosaic.Lib.Pipeline.Kit

@[expose] public section

noncomputable section

namespace Cert.Embed

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (BodyObligation)

variable {F : FTy → Type} [FloatOps F]
variable (m : (ℓ : Loc nD τ sig) → Buf (Elt F) ℓ)

/-! ## The kernel's own counters and buffers -/

/-- The kernel's three transfer counters. -/
abbrev osem : Fin 3 → SemLoc sig := fun | 0 => .dma gS | 1 => .dma sS | 2 => .dma rS

/-- The two lists of the scan, at any contents. -/
def lists (c : Dev nD) : sProp (MM F) := iprop((∃ f, tokPts c f) ∗ (∃ g, rwPts c g))

/-- The counters at zero. -/
def counters (c : Dev nD) : sProp (MM F) := iprop(semVal (gCell c) 0 ∗ semVal (sendCell c) 0 ∗ semVal (recvCell c) 0)

theorem counters_eq (c : Dev nD) : (Pipeline.ownSems0 osem c : sProp (MM F)) = counters c := by
  unfold Pipeline.ownSems0 counters
  rw [show (Finset.univ : Finset (Fin 3)) = {0, 1, 2} from by decide, bigSep_insert (by decide), bigSep_insert (by decide), bigSep_singleton]
  rfl

/-- What the launch keeps for the kernel: its share of the ghost state and the credit for its waits. -/
def Tk (c : Dev nD) : sProp (MM F) :=
  iprop((∃ κ, ghost (I m) (T m) κ c) ∗ cred (tallyAt (barCell c) 4 1) ∗ cred (tallyAt (recvCell c) 5 ((Own (I m) (pr c)).card * N)))
/-- The same once the kernel's counters are under their invariants. -/
def Xk (c : Dev nD) : sProp (MM F) :=
  iprop((∃ κ, opened (I m) (T m) κ c) ∗ cred (tallyAt (barCell c) 4 1) ∗ cred (tallyAt (recvCell c) 5 ((Own (I m) (pr c)).card * N)) ∗ levAts L lv)
/-- What is left of it. -/
def Yk (c : Dev nD) : sProp (MM F) := semVal (barCell c) 0

/-- The invariant before the body, and after. -/
def before (c : Dev nD) : sProp (MM F) := iprop((Xk m c ∗ eltPts c (T m c)) ∗ lists c ∗ ∃ r, prngReg c r)
def past (c : Dev nD) : sProp (MM F) := iprop((Yk c ∗ eltPts c (T m c)) ∗ counters c ∗ lists c ∗ ∃ r, prngReg c r)

/-! ## The proof data -/

/-- The pipeline's data: the ids staged in, the rows staged out, the debt to the partner paid by the body. -/
def dat0 (c : Dev nD) : Pipeline.Dat τ (Elt F) ℕ ℕ UU ℕ cfg0 c where
  A w := match w with
    | ⟨0, _⟩ => V₁ m c main_v1
    | ⟨1, _⟩ => V₁ m c main_v2
  after w _ := match w with
    | ⟨0, _⟩ => agreed m c
    | ⟨1, _⟩ => rows m c
  Φ t := if t.val = 0 then before m c else past m c
  q _ := fullShare
  owed t := if t.val = 0 then K (I m) c else 0

abbrev adm : (p : Fin 1) → (pcfgs (F := F) p).Adm := fun p => (cfgs p).toPCfg_adm
def pdats : (p : Fin 1) → (c : Dev nD) → Pipeline.Dat τ (Elt F) ℕ ℕ UU ℕ (Pipeline.pin (pcfgs (F := F)) adm p) c
  | 0 => dat0 m

theorem owed_first (c : Dev nD) : (pdats m 0 c).owed 0 = K (I m) c := by
  show (if ((0 : Fin (cfg0.N + 1)).val = 0) then K (I m) c else 0) = K (I m) c; exact if_pos rfl
theorem owed_start (c : Dev nD) : (dat0 m c).owed t0_0.castSucc = K (I m) c := by
  show (if (t0_0.castSucc : Fin (cfg0.N + 1)).val = 0 then K (I m) c else 0) = K (I m) c; exact if_pos rfl
theorem owed_end (c : Dev nD) : (pdats m 0 c).owed (Fin.last _) = 0 := by
  show (if (Fin.last cfg0.N).val = 0 then K (I m) c else 0) = 0
  rw [Fin.val_last, if_neg (by rw [show cfg0.N = 1 from N_0]; decide)]

theorem owesAt_of {cfg : Pipeline.Cfg sig Λ₀} {c : Dev nD} (dat : Pipeline.Dat τ (Elt F) ℕ ℕ UU ℕ cfg c) (t : Fin (cfg.N + 1))
    (O : CellTallies nD τ sig ℕ) (h0 : dat.owed t = O) (W : Waits sig ℕ) (hr : dat.recorded t = Set.univ := by rfl) :
    (owes (c : Thread nD τ) O W : sProp (MM F)) ⊢ (dat.owesAt 0 t : sProp (MM F)) := by
  unfold Pipeline.Dat.owesAt Pipeline.owesWithin Pipeline.Dat.bound; rw [h0, hr]
  iintro HO; iexists W; isplitr; · ipureintro; exact fun _ _ => Or.inl trivial
  iexact HO
theorem of_owesAt {cfg : Pipeline.Cfg sig Λ₀} {c : Dev nD} (dat : Pipeline.Dat τ (Elt F) ℕ ℕ UU ℕ cfg c) (t : Fin (cfg.N + 1))
    (O : CellTallies nD τ sig ℕ) (h0 : dat.owed t = O) :
    (dat.owesAt 0 t : sProp (MM F)) ⊢ iprop(∃ W, owes (c : Thread nD τ) O W) := by
  unfold Pipeline.Dat.owesAt Pipeline.owesWithin; rw [h0]
  iintro ⟨%W, -, HO⟩; iexists W; iexact HO

/-! ## The windows: each is its whole array -/

theorem index0 (t : Fin cfg0.N) (a) : win0_0.index t a = 0 := rfl
theorem index1 (t : Fin cfg0.N) (a) : win0_1.index t a = 0 := rfl

theorem emb0 (t : Fin cfg0.N) (i : S1024.Idx) : (win0_0.rect t).emb i = i :=
  funext fun a => Fin.ext (win0_0.rect_emb_val_of_index_zero t a (index0 t a) i)
theorem emb1 (t : Fin cfg0.N) (i : S1024x1024.Idx) : (win0_1.rect t).emb i = i :=
  funext fun a => Fin.ext (win0_1.rect_emb_val_of_index_zero t a (index1 t a) i)

theorem staged (c : Dev nD) (d : (cfg0.win 0).block.Idx → Elt F (cfg0.win 0).elt) : (dat0 m c).before 0 t0_0 d = agreed m c := by
  have e : (dat0 m c).before 0 t0_0 d = ((cfg0.win 0).blk t0_0).view.read (Elt F) (V₁ m c main_v1) := by
    unfold Pipeline.Dat.before; rw [if_pos (by decide)]; rfl
  rw [e, V₁_ids]
  funext i
  show agreed m c ((win0_0.rect t0_0).emb i) = agreed m c i
  exact congrArg (agreed m c) (emb0 t0_0 i)

theorem flushed_rows (c : Dev nD) (t : Fin cfg0.N) : (dat0 m c).flushed 1 t = ((cfg0.win 1).blk t).view.read (Elt F) (rows m c) := by
  obtain rfl := fin_N0 t
  have e : (dat0 m c).flushed 1 t0_0 = rows m c := by
    unfold Pipeline.Dat.flushed; rfl
  rw [e]
  funext i
  exact (congrArg (rows m c) (emb1 t0_0 i)).symm

theorem covered (i : S1024x1024.Idx) : ∃ t : Fin cfg0.N, (cfg0.win 1).flush t = true ∧ i ∈ ((cfg0.win 1).blk t).view.set := by
  refine ⟨t0_0, flush0_1 _, ?_⟩
  show i ∈ ((View.whole main_v2).slice (win0_1.rect t0_0)).set
  rw [View.set_slice_whole]
  have := (win0_1.rect t0_0).idx_mem i
  rwa [show (win0_1.rect t0_0).idx i = i from emb1 t0_0 i] at this

/-- The kernel leaves the rows in its result. -/
theorem final_rows (c : Dev nD) : (dat0 m c).arrAt 1 cfg0.N = rows m c :=
  (dat0 m c).arrAt_eq_of_cover 1 (rows m c) (fun t _ => flushed_rows m c t) covered

/-! ## The body -/

theorem owns_whole_iff (c : Dev nD) (b : Ref sig .tc) (X : b.ty.Contents (Elt F)) :
    (owns (Ix := ℕ) (Name := ℕ) (U := UU) (Lvl := ℕ) (c : Thread nD τ) (Memref.whole b) fullShare X : sProp (MM F))
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

variable {m}

theorem body_ok (hI : InTable m) (c : Dev nD) : BodyObligation (dat0 m c) (defs₀ (F := F)) 𝒱₀ 0 Set.univ := fun t => by
  obtain rfl := fin_N0 t
  rw [bigSep_W0, bigSep_W0]
  simp only [owns_whole_iff]
  rw [show (dat0 m c).Φ t0_0.castSucc = before m c from rfl, show (dat0 m c).Φ t0_0.succ = past m c from rfl]
  unfold before past Xk lists
  iintro ⟨⟨⟨⟨⟨%κ, Hg⟩, HcB, HcV, Hlev⟩, Hel⟩, ⟨Htok, Hrw⟩, Hreg⟩, HO, ⟨%d0, %f0, %hf0, H0⟩, ⟨%d1, %f1, %hf1, H1⟩⟩
  rw [staged] at hf0
  subst hf0
  ihave HO' := (of_owesAt (dat0 m c) _ (K (I m) c) (owed_start m c)) $$ HO
  icases HO' with ⟨%W, HO⟩
  iapply (body_run (ids_of hI) κ c (agreed m c) (fun _ _ => rfl) W (hstage0_0 0) (Memref.isWhole_whole _) (hstage0_1 0) (Memref.isWhole_whole _)
    (Memref.isWhole_whole _) _)
  isplitl [Hg HcB HcV Hlev H0 Htok Hrw H1 Hel HO]
  · unfold bodyPre
    isplitl [Hg]; · iexact Hg
    isplitl [HcB]; · iexact HcB
    isplitl [HcV]; · iexact HcV
    isplitl [Hlev]; · iexact Hlev
    isplitl [H0]; · iexact H0
    isplitl [Htok]; · iexact Htok
    isplitl [Hrw]; · iexact Hrw
    isplitl [H1]; · iexists f1; iexact H1
    isplitl [Hel]; · iexact Hel
    iexact HO
  unfold bodyPost clear counters Yk
  iintro ⟨⟨Hb0, Hg0, Hs0, Hr0⟩, H0, Htok, Hrw, H1, Hel, ⟨%W', HO⟩⟩
  isplitl [Hb0 Hel Hg0 Hs0 Hr0 Htok Hrw Hreg]
  · isplitl [Hb0 Hel]; · isplitl [Hb0] <;> iassumption
    isplitl [Hg0 Hs0 Hr0]
    · isplitl [Hg0]; · iexact Hg0
      isplitl [Hs0] <;> iassumption
    isplitl [Htok Hrw]; · isplitl [Htok] <;> iassumption
    iexact Hreg
  isplitl [HO]; · iapply (owesAt_of (dat0 m c) t0_0.succ 0 (owed_end m c) W'); iexact HO
  isplitl [H0]
  · iexists _; isplitr; swap; (· iexact H0); ipureintro; rfl
  iexists _; isplitr; swap; (· iexact H1); ipureintro; rfl

/-! ## The region -/

variable (m)

/-- A device's buffers at the end. -/
abbrev V₂ (c : Dev nD) : Valuation τ sig (Elt F) := Function.update (V₁ m c) (Proc.devRef .tc main_v2) (rows m c)

theorem V₂_of_ne (c : Dev nD) (b : Ref sig .tc) (h : (Proc.devRef .tc b : DevRef τ sig) ≠ Proc.devRef .tc main_v2) : V₂ m c b = V₁ m c b :=
  Function.update_of_ne h ..
theorem V₂_rows (c : Dev nD) : V₂ m c main_v2 = rows m c := Function.update_self ..

/-- A buffer of device `c`, whole. -/
abbrev pl (c : Dev nD) (b : Ref sig .tc) (f : b.ty.Contents (Elt F)) : sProp (MM F) := ((c : Thread nD τ).loc b) ↦{fullShare} f

/-- The buffer the body addresses itself: the table. -/
abbrev tableRef : Finset (DevRef τ sig) := {Proc.devRef .tc main_arg1}

theorem held_table (c : Dev nD) (W : Valuation τ sig (Elt F)) : (StableHlo.held (c : Thread nD τ) tableRef W : sProp (MM F)) = pl c main_arg1 (W main_arg1) := by
  unfold StableHlo.held
  rw [bigSep_singleton]

theorem held_windows (c : Dev nD) (W : Valuation τ sig (Elt F)) :
    (StableHlo.held (c : Thread nD τ) (Pipeline.arrRefs (τ := τ) spec0) W : sProp (MM F)) = iprop(pl c main_v1 (W main_v1) ∗ pl c main_v2 (W main_v2)) := by
  unfold StableHlo.held
  rw [bigSep_eq_bigSepL_of_eq [Proc.devRef .tc main_v1, Proc.devRef .tc main_v2] (by decide) (by decide)]
  rfl

theorem mem_site (b : DevRef τ sig) : b ∈ (ar0 (F := F)).siteRefs ↔ b = Proc.devRef .tc main_v1 ∨ b = Proc.devRef .tc main_arg0
    ∨ b = Proc.devRef .tc main_v1_s0 ∨ b = Proc.devRef .tc main_v1_s1 := by
  rw [AllReduce.Cfg.mem_siteRefs]
  constructor
  · rintro (h | h | ⟨j, h⟩)
    · exact .inl h
    · exact .inr (.inl h)
    · fin_cases j
      · exact .inr (.inr (.inl h))
      · exact .inr (.inr (.inr h))
  · rintro (h | h | h | h)
    · exact .inl h
    · exact .inr (.inl h)
    · exact .inr (.inr ⟨0, h⟩)
    · exact .inr (.inr ⟨1, h⟩)

theorem V₁_table (c : Dev nD) : V₁ m c main_arg1 = T m c :=
  (ar0 (F := F)).after₀_off_siteRefs (V₀ m) c (by rw [mem_site]; decide)

theorem hopen (c : Dev nD) : iprop(Tk m c ∗ Pipeline.ownSems0 osem c ∗ levAts L lv) ⊢ (|={Set.univ}=> Xk m c : sProp (MM F)) := by
  rw [counters_eq]
  unfold Tk Xk counters
  iintro ⟨⟨⟨%κ, Hg⟩, HcB, HcV⟩, ⟨Hg0, Hs0, Hv0⟩, #Hlev⟩
  unfold ghost invs
  icases Hg with ⟨⟨#HIbar, #HIsnd, #HIrcv, #HIg, #HIbarP, #HIrcvP⟩, HatB, HoS, HoV, HoG, #HrP, Htk⟩
  imod (Rounds.cell_open ET (talkRd (I m) (T m)) (g := sendCell c) (Set.mem_univ (κ (sendCell c)))) $$ [HoS Hs0] with ⟨HatS, #HrS⟩
  · isplitr; · iexact HIsnd
    isplitl [HoS] <;> iassumption
  imod (Rounds.cell_open ET (talkRd (I m) (T m)) (g := recvCell c) (Set.mem_univ (κ (recvCell c)))) $$ [HoV Hv0] with ⟨HatV, #HrV⟩
  · isplitr; · iexact HIrcv
    isplitl [HoV] <;> iassumption
  imod (Rounds.cell_open ET (talkRd (I m) (T m)) (g := gCell c) (Set.mem_univ (κ (gCell c)))) $$ [HoG Hg0] with ⟨HatG, #HrG⟩
  · isplitr; · iexact HIg
    isplitl [HoG] <;> iassumption
  imodintro
  isplitl [HatB HatS HatV HatG Htk]
  · iexists κ; unfold opened invs
    isplitr
    · isplitr; · iexact HIbar
      isplitr; · iexact HIsnd
      isplitr; · iexact HIrcv
      isplitr; · iexact HIg
      isplitr; · iexact HIbarP
      iexact HIrcvP
    isplitl [HatB]; · iexact HatB
    isplitl [HatS]; · iexact HatS
    isplitl [HatV]; · iexact HatV
    isplitl [HatG]; · iexact HatG
    isplitr; · iexact HrP
    isplitr; · iexact HrS
    isplitr; · iexact HrV
    isplitr; · iexact HrG
    iexact Htk
  isplitl [HcB]; · iexact HcB
  isplitl [HcV]; · iexact HcV
  iexact Hlev

theorem hin (c : Dev nD) : iprop(Pipeline.scopedRest (Pipeline.pin (pcfgs (F := F)) adm 0).spec c ∗ (∃ r, prngReg c r)
    ∗ StableHlo.held (c.tc : Thread nD τ) tableRef (V₁ m c) ∗ Xk m c) ⊢ (pdats m 0 c).Φ 0 := by
  rw [show (pdats m 0 c).Φ 0 = before m c from rfl, scopedRest0_eq, held_table, V₁_table]
  unfold before lists
  iintro ⟨⟨Hs, Hr⟩, Hp, He, HX⟩
  isplitl [He HX]; · isplitl [HX] <;> iassumption
  isplitl [Hs Hr]; · isplitl [Hs] <;> iassumption
  iexact Hp

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) tableRef (V₂ m c) ∗ Pipeline.ownSems0 osem c ∗ Yk c) := by
  rw [show (pdats m 0 c).Φ (Fin.last _) = past m c from rfl, scopedRest0_eq, held_table, V₂_of_ne m c main_arg1 (by decide), V₁_table, counters_eq]
  unfold past lists
  iintro ⟨⟨Hb, He⟩, Hc, ⟨Hs, Hr⟩, Hp⟩
  isplitl [Hs Hr]; · isplitl [Hs] <;> iassumption
  isplitl [Hp]; · iexact Hp
  isplitl [He]; · iexact He
  isplitl [Hc] <;> iassumption

theorem owed_cut (c : Dev nD) (t : Fin ((Pipeline.pin (pcfgs (F := F)) adm 0).N + 1)) (g : GSem nD τ sig) (i : ℕ) (h : 0 < (pdats m 0 c).owed t g i) :
    i ∈ L g ∧ (0 : ℕ) < lv g i := by
  have e : (pdats m 0 c).owed t = if t.val = 0 then K (I m) c else 0 := rfl
  rw [e] at h
  split at h
  · exact ⟨(K_level _ h).1, lt_of_lt_of_le (by decide) (K_level _ h).2⟩
  · exact absurd h (Nat.lt_irrefl 0)

/-- The record that the all-reduce's cells are under their invariants. -/
abbrev invsA : sProp (MM F) := iprop(∃ κ, (AllReduce.Dat.once (U := UU) (ar0 (F := F)) (V₀ m)).cellInvs EA κ)

/-- What passes by the region: the given ids, and the all-reduce's cells past their use. -/
def passing (c : Dev nD) : sProp (MM F) :=
  iprop(pl c main_arg0 (m ((c : Thread nD τ).loc main_arg0)) ∗ invsA m ∗ (ar0 (F := F)).ghostAfter EA c 0)

variable {m}

set_option backward.isDefEq.respectTransparency.types false in
/-- The kernel's region. -/
def region (hI : InTable m) : Pipeline.RegionSeg (pcfgs (F := F)) adm (pdats m) 0 defs₀ 𝒱₀ L lv 0 :=
  Pipeline.RegionSeg.ofTalk (pcfgs (F := F)) adm (pdats m) 0 defs₀ 𝒱₀ L lv 0 osem (by decide : Pipeline.OwnSemFacts spec0 osem)
    tableRef tableRef (Finset.Subset.refl _) launch0.toP rfl (fun c => (body_ok hI c).loose)
    (fun _ => 0) (fun c => K (I m) c) (fun c => (owed_first m c).trans (zero_add _).symm) (owed_end m) (fun _ => rfl)
    (fun c w => (pdats m 0 c).share_full (fun _ => rfl) w)
    (V₁ m) (V₂ m) (fun _ b hb => absurd hb (by rw [Finset.sdiff_self]; exact Finset.notMem_empty b))
    (Tk m) Yk (Xk m) Yk (hopen m) (hin m) (hout m)
    (fun c => by iintro H; imodintro; iexact H)
    (fun _ => 0)
    ⟨fun _ _ _ => mem_L _ _ (by decide), fun _ _ _ => le_refl _, fun c t g i h => owed_cut m c t g i h⟩
    (passing m)
    (fun c w => by fin_cases w <;> rfl)
    (fun c w => by
      fin_cases w
      · exact ((dat0 m c).arrAt_in 0 rfl _).trans (V₂_of_ne m c main_v1 (by decide)).symm
      · exact (final_rows m c).trans (V₂_rows m c).symm)

end Cert.Embed
end
-- ==== Proof.Launch.lean ====
/-
  The launch: every cell of the exchange put under its invariant, the all-reduce's cells funded, and each device dealt its share.
-/
module

public import proofs.«01_k».proof.Proof.Region

@[expose] public section

noncomputable section

namespace Cert.Embed

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

/-! ## The cells and the tokens -/

theorem osem_inj : Function.Injective osem := by decide
theorem osem_ne_bar : ∀ k : Fin 3, osem k ≠ .reg barrier0 := by decide

def barEmb : Dev nD ↪ GSem nD τ sig := ⟨fun c => barCell c, fun _ _ h => congrArg (fun g : GSem nD τ sig => g.1.1) h⟩
def scEmb : Dev nD × Fin 3 ↪ GSem nD τ sig :=
  ⟨fun ck => ((ck.1 : Thread nD τ), osem ck.2), fun _ _ h =>
    Prod.ext (congrArg (fun g : GSem nD τ sig => g.1.1) h) (osem_inj (congrArg Prod.snd h))⟩

/-- The barrier cells, funded from their counters; the kernel's own, funded without. -/
abbrev barCells : Finset (GSem nD τ sig) := Finset.univ.map barEmb
abbrev scCells : Finset (GSem nD τ sig) := Finset.univ.map scEmb

abbrev tsem : Fin 4 → SemLoc sig := fun | 0 => .reg barrier0 | 1 => .dma rS | 2 => .dma sS | 3 => .dma gS
theorem tsem_inj : Function.Injective tsem := by decide

/-- A token per cell and position: more than the exchange's duties, whatever the ids. -/
def talkToks : Finset (GSem nD τ sig × ℕ × ℕ) :=
  Finset.univ.map ⟨fun x : (Dev nD × Fin 4) × Fin 1024 => (((x.1.1 : Thread nD τ), tsem x.1.2), 0, x.2.val), fun _ _ h =>
    Prod.ext (Prod.ext (congrArg (fun t : GSem nD τ sig × ℕ × ℕ => t.1.1.1) h)
      (tsem_inj (congrArg (fun t : GSem nD τ sig × ℕ × ℕ => t.1.2) h)))
      (Fin.ext (congrArg (fun t : GSem nD τ sig × ℕ × ℕ => t.2.2) h))⟩

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

theorem bar_mem (c : Dev nD) : barCell c ∈ (barCells ∪ scCells : Finset (GSem nD τ sig)) :=
  Finset.mem_union_left _ (Finset.mem_map_of_mem barEmb (Finset.mem_univ c))
theorem g_mem (c : Dev nD) : gCell c ∈ (barCells ∪ scCells : Finset (GSem nD τ sig)) :=
  Finset.mem_union_right _ (Finset.mem_map_of_mem scEmb (Finset.mem_univ (c, (0 : Fin 3))))
theorem send_mem (c : Dev nD) : sendCell c ∈ (barCells ∪ scCells : Finset (GSem nD τ sig)) :=
  Finset.mem_union_right _ (Finset.mem_map_of_mem scEmb (Finset.mem_univ (c, (1 : Fin 3))))
theorem recv_mem (c : Dev nD) : recvCell c ∈ (barCells ∪ scCells : Finset (GSem nD τ sig)) :=
  Finset.mem_union_right _ (Finset.mem_map_of_mem scEmb (Finset.mem_univ (c, (2 : Fin 3))))

/-! ## What each device is dealt of the exchange -/

/-- The invariants under one map of names, and round 0 of every barrier cell reached. -/
def records (κ : GSem nD τ sig → ℕ) : sProp (MM F) :=
  iprop((bigSep (barCells ∪ scCells) fun g => cellInv ET (talkRd (I m) (T m)) (κ g) g) ∗ bigSep barCells fun g => reached ET g 0)

instance records_persistent (κ : GSem nD τ sig → ℕ) : BI.Persistent (records m κ) := by unfold records; infer_instance

theorem inv_at (κ : GSem nD τ sig → ℕ) {g : GSem nD τ sig} (hg : g ∈ (barCells ∪ scCells : Finset (GSem nD τ sig))) :
    (bigSep (barCells ∪ scCells) fun g => (cellInv ET (talkRd (I m) (T m)) (κ g) g : sProp (MM F))) ⊢ cellInv ET (talkRd (I m) (T m)) (κ g) g :=
  bigSep_elim hg

theorem reached_at (c : Dev nD) : (bigSep barCells fun g => (reached ET g 0 : sProp (MM F))) ⊢ reached ET (barCell c) 0 :=
  bigSep_elim (Finset.mem_map_of_mem barEmb (Finset.mem_univ c))

/-- A cell's tokens, one per position. -/
def toksAt (c : Dev nD) (i : Fin 4) : sProp (MM F) := bigSep Finset.univ fun k : Fin 1024 => dutyTok ET ((c : Thread nD τ), tsem i) 0 k.val

theorem toksAt_sub (c : Dev nD) (i : Fin 4) (S : Finset ℕ) (h : S ⊆ Finset.range 1024) :
    (toksAt c i : sProp (MM F)) ⊢ bigSep S fun k => dutyTok ET ((c : Thread nD τ), tsem i) 0 k := by
  have e : (toksAt c i : sProp (MM F)) = bigSep (Finset.range 1024) fun k => dutyTok ET ((c : Thread nD τ), tsem i) 0 k := by
    have hr : (Finset.range 1024) = (Finset.univ : Finset (Fin 1024)).map Fin.valEmbedding := by
      ext k
      simp only [Finset.mem_range, Finset.mem_map, Finset.mem_univ, true_and, Fin.valEmbedding_apply]
      exact ⟨fun hk => ⟨⟨k, hk⟩, rfl⟩, fun ⟨j, hj⟩ => hj ▸ j.isLt⟩
    rw [hr, BI.bigSep_map]; rfl
  rw [e]
  exact BI.bigSep_subset h

theorem bigSep_four (Φ : Fin 4 → sProp (MM F)) : bigSep Finset.univ Φ = iprop(Φ 0 ∗ Φ 1 ∗ Φ 2 ∗ Φ 3) := by
  rw [show (Finset.univ : Finset (Fin 4)) = {0, 1, 2, 3} from by decide, bigSep_insert (by decide), bigSep_insert (by decide), bigSep_insert (by decide), bigSep_singleton]
  rfl

theorem bigSep_three (Φ : Fin 3 → sProp (MM F)) : bigSep Finset.univ Φ = iprop(Φ 0 ∗ Φ 1 ∗ Φ 2) := by
  rw [show (Finset.univ : Finset (Fin 3)) = {0, 1, 2} from by decide, bigSep_insert (by decide), bigSep_insert (by decide), bigSep_singleton]
  rfl

theorem toks_eq : bigSep talkToks (fun x => (dutyTok ET x.1 x.2.1 x.2.2 : sProp (MM F)))
    = bigSep Finset.univ fun c : Dev nD => iprop(toksAt c 0 ∗ toksAt c 1 ∗ toksAt c 2 ∗ toksAt c 3) := by
  unfold talkToks; rw [BI.bigSep_map, bigSep_univ_prod, bigSep_univ_prod]
  exact BI.bigSep_congr fun c _ => by rw [bigSep_four]; rfl

/-- Devices paired off. -/
def prE : Dev nD ≃ Dev nD := ⟨pr, pr, pr_pr, pr_pr⟩

/-- The tokens each device pays its duties with, its partner's cells' among them. -/
theorem toks_around :
    (bigSep Finset.univ fun c : Dev nD => (iprop(toksAt c 0 ∗ toksAt c 1 ∗ toksAt c 2 ∗ toksAt c 3) : sProp (MM F)))
      ⊢ bigSep Finset.univ fun c : Dev nD => tokens (I m) c := by
  have h : (bigSep Finset.univ fun c : Dev nD => (iprop(toksAt c 0 ∗ toksAt c 1 ∗ toksAt c 2 ∗ toksAt c 3) : sProp (MM F)))
      = bigSep Finset.univ fun c : Dev nD => (iprop(toksAt (pr c) 0 ∗ toksAt (pr c) 1 ∗ toksAt c 2 ∗ toksAt c 3) : sProp (MM F)) := by
    rw [bigSep_sep', bigSep_sep', bigSep_sep', bigSep_sep', bigSep_sep', bigSep_sep',
      bigSep_univ_equiv prE (fun c : Dev nD => (toksAt c 0 : sProp (MM F))), bigSep_univ_equiv prE (fun c : Dev nD => (toksAt c 1 : sProp (MM F)))]
    rfl
  rw [h]
  refine BI.bigSep_mono fun c _ => ?_
  show iprop(toksAt (pr c) 0 ∗ toksAt (pr c) 1 ∗ toksAt c 2 ∗ toksAt c 3) ⊢ tokens (I m) c
  have hs : Own (I m) c ⊆ Finset.range 1024 := fun k hk => Finset.mem_range.mpr ((mem_own _ _ _).mp hk).1
  unfold tokens
  iintro ⟨H0, H1, H2, H3⟩
  isplitl [H0]
  · ihave H := (toksAt_sub (F := F) (pr c) 0 {0} (by decide)) $$ H0
    iapply (Entails.of_eq (show bigSep {0} (fun k => (dutyTok ET (barCell (pr c)) 0 k : sProp (MM F))) = dutyTok ET (barCell (pr c)) 0 0 from bigSep_singleton)) $$ H
  isplitl [H1]; · iapply (toksAt_sub (F := F) (pr c) 1 _ hs) $$ H1
  isplitl [H2]; · iapply (toksAt_sub (F := F) c 2 _ hs) $$ H2
  iapply (toksAt_sub (F := F) c 3 _ hs) $$ H3

/-- What stays with device `c`: its barrier position, its rights to open, its tokens. -/
def linear (c : Dev nD) : sProp (MM F) :=
  iprop(atPos ET (barCell c) 0 ∅ 0 ∗ (openTok ET (gCell c) ∗ openTok ET (sendCell c) ∗ openTok ET (recvCell c)) ∗ tokens (I m) c)

theorem ghost_intro (κ : GSem nD τ sig → ℕ) (c : Dev nD) : iprop(records m κ ∗ linear m c) ⊢ (iprop(∃ κ, ghost (I m) (T m) κ c) : sProp (MM F)) := by
  unfold records linear ghost invs
  iintro ⟨⟨#HI, #HR⟩, HaB, ⟨HoG, HoS, HoV⟩, Htk⟩
  iexists κ
  isplitr
  · isplitr; · iapply (inv_at m κ (bar_mem c)); iexact HI
    isplitr; · iapply (inv_at m κ (send_mem c)); iexact HI
    isplitr; · iapply (inv_at m κ (recv_mem c)); iexact HI
    isplitr; · iapply (inv_at m κ (g_mem c)); iexact HI
    isplitr; · iapply (inv_at m κ (bar_mem (pr c))); iexact HI
    iapply (inv_at m κ (recv_mem (pr c))); iexact HI
  isplitl [HaB]; · iexact HaB
  isplitl [HoS]; · iexact HoS
  isplitl [HoV]; · iexact HoV
  isplitl [HoG]; · iexact HoG
  isplitr; · iapply (reached_at (F := F) (pr c)); iexact HR
  iexact Htk

/-! ## The launch credit -/

/-- What a device owes at launch: its part of the exchange, then its part of the all-reduce. -/
abbrev O₀ (c : Dev nD) : CellTallies nD τ sig ℕ := K (I m) c + (ar0 (F := F)).due c 1 2

/-- What is owed to device `c`'s own cells. -/
def owedTo (c : Dev nD) : CellTallies nD τ sig ℕ := tallyAt (recvCell c) 5 ((Own (I m) (pr c)).card * N) + tallyAt (barCell c) 4 1

theorem K_owedTo (c : Dev nD) : K (I m) c = owedTo m (pr c) := by unfold K owedTo; rw [pr_pr]

theorem owedTo_ne (c : Dev nD) (g : GSem nD τ sig) (h : owedTo m c g ≠ 0) : g.1 = (c.tc : Thread nD τ) := by
  by_contra hne
  refine h (Finsupp.ext fun i => ?_)
  unfold owedTo
  rw [Pi.add_apply, Finsupp.add_apply, tallyAt_apply, tallyAt_apply, if_neg (fun hh => hne (by rw [hh.1])), if_neg (fun hh => hne (by rw [hh.1]))]
  rfl

theorem creds (c : Dev nD) : (Pipeline.launchCred (O₀ m) c : sProp (MM F))
    ⊢ iprop((cred (tallyAt (barCell c) 4 1) ∗ cred (tallyAt (recvCell c) 5 ((Own (I m) (pr c)).card * N)))
      ∗ Pipeline.launchCred (fun d => (ar0 (F := F)).due d 1 2) c) := by
  have e : (Pipeline.launchCred (O₀ m) c : sProp (MM F))
      = iprop(Pipeline.launchCred (fun d => K (I m) d) c ∗ Pipeline.launchCred (fun d => (ar0 (F := F)).due d 1 2) c) :=
    Pipeline.launchCred_add (fun d => K (I m) d) (fun d => (ar0 (F := F)).due d 1 2) c
  have e' : (Pipeline.launchCred (fun d => K (I m) d) c : sProp (MM F)) = cred (owedTo m c) :=
    Pipeline.launchCred_of_sum (fun d => K (I m) d) (owedTo m)
      ((Finset.sum_congr rfl fun d _ => K_owedTo m d).trans (Equiv.sum_comp prE (owedTo m))) (owedTo_ne m) c
  rw [e, e']
  unfold owedTo
  iintro ⟨H, Hd⟩
  ihave H' := (cred_add _ _).1 $$ H
  icases H' with ⟨H1, H2⟩
  isplitl [H1 H2]
  · isplitl [H2]; · iexact H2
    iexact H1
  iexact Hd

end Cert.Embed
end
-- ==== Proof.Run.lean ====
/-
  The run of @main on the sixteen devices: the pairs agree on their ids, then the kernel gathers.
-/
module

public import proofs.«01_k».proof.Proof.Launch

@[expose] public section

noncomputable section

namespace Cert.Embed

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

/-! ## The all-reduce as a segment -/

theorem hbar (c : Dev nD) : (levAts L lv : sProp (MM F)) ⊢ MayWait (c : Thread nD τ) (.reg (ar0 (F := F)).barrier) 1 (K (I m) c + (ar0 (F := F)).dataDue c 2) :=
  MayOwe.of_cut (lev := lv) 1 (fun p hp => by rw [Finset.mem_singleton.mp hp]; exact mem_L _ _ (by decide : (1 : ℕ) < 8))
    (fun g i hg => by
      rw [Pi.add_apply, Finsupp.add_apply] at hg
      rcases Nat.add_pos_iff_pos_or_pos.mp hg with h | h
      · exact (K_level _ h).1
      · obtain ⟨_, -, rfl, rfl⟩ := (ar0 (F := F)).dataDue_pos h; exact mem_L _ _ (by decide))
    (fun p hp => by rw [Finset.mem_singleton.mp hp]; exact le_refl _)
    (fun g i hg => by
      rw [Pi.add_apply, Finsupp.add_apply] at hg
      rcases Nat.add_pos_iff_pos_or_pos.mp hg with h | h
      · exact lt_of_lt_of_le (by decide) (K_level _ h).2
      · obtain ⟨_, -, rfl, rfl⟩ := (ar0 (F := F)).dataDue_pos h; exact (by decide : (1 : ℕ) < 2))
theorem hrecv (c : Dev nD) : (levAts L lv : sProp (MM F)) ⊢ MayWait (c : Thread nD τ) (.dma (ar0 (F := F)).recv) 2 (K (I m) c) :=
  MayOwe.of_cut (lev := lv) 2 (fun p hp => by rw [Finset.mem_singleton.mp hp]; exact mem_L _ _ (by decide : (2 : ℕ) < 8)) (fun g i hg => (K_level _ hg).1)
    (fun p hp => by rw [Finset.mem_singleton.mp hp]; exact le_refl _) (fun g i hg => lt_of_lt_of_le (by decide) (K_level _ hg).2)
theorem hsend (c : Dev nD) : (levAts L lv : sProp (MM F)) ⊢ MayWait (c : Thread nD τ) (.dma (ar0 (F := F)).send) 3 (K (I m) c) :=
  MayOwe.of_cut (lev := lv) 3 (fun p hp => by rw [Finset.mem_singleton.mp hp]; exact mem_L _ _ (by decide : (3 : ℕ) < 8)) (fun g i hg => (K_level _ hg).1)
    (fun p hp => by rw [Finset.mem_singleton.mp hp]; exact le_refl _) (fun g i hg => lt_of_lt_of_le (by decide) (K_level _ hg).2)

/-- The buffers that are none of the all-reduce's. -/
abbrev otherRefs : Finset (DevRef τ sig) := {Proc.devRef .tc main_arg1, Proc.devRef .tc main_v2}

theorem held_others (c : Dev nD) (W : Valuation τ sig (Elt F)) :
    (StableHlo.held (c : Thread nD τ) otherRefs W : sProp (MM F)) = iprop(pl c main_arg1 (W main_arg1) ∗ pl c main_v2 (W main_v2)) := by
  unfold StableHlo.held
  rw [bigSep_eq_bigSepL_of_eq [Proc.devRef .tc main_arg1, Proc.devRef .tc main_v2] (by decide) (by decide)]
  rfl

/-- The all-reduce's buffers. -/
abbrev siteList : Finset (DevRef τ sig) :=
  {Proc.devRef .tc main_v1, Proc.devRef .tc main_arg0, Proc.devRef .tc main_v1_s0, Proc.devRef .tc main_v1_s1}

theorem site_eq : (ar0 (F := F)).siteRefs = siteList := by
  ext b; rw [mem_site]
  simp only [siteList, Finset.mem_insert, Finset.mem_singleton]

theorem held_site (c : Dev nD) (W : Valuation τ sig (Elt F)) :
    (StableHlo.held (c : Thread nD τ) siteList W : sProp (MM F))
      = iprop(pl c main_v1 (W main_v1) ∗ pl c main_arg0 (W main_arg0) ∗ pl c main_v1_s0 (W main_v1_s0) ∗ pl c main_v1_s1 (W main_v1_s1)) := by
  unfold StableHlo.held
  rw [bigSep_eq_bigSepL_of_eq [Proc.devRef .tc main_v1, Proc.devRef .tc main_arg0, Proc.devRef .tc main_v1_s0, Proc.devRef .tc main_v1_s1]
    (by decide) (by decide)]
  rfl

theorem held_all (c : Dev nD) (W : Valuation τ sig (Elt F)) :
    (StableHlo.held (c : Thread nD τ) (Pipeline.ucRefs τ sig) W : sProp (MM F))
      = iprop(StableHlo.held (c : Thread nD τ) siteList W ∗ StableHlo.held (c : Thread nD τ) otherRefs W) := by
  rw [StableHlo.held_sub_split (c : Thread nD τ) (T := siteList) (by decide) W]
  rw [show Pipeline.ucRefs τ sig \ siteList = otherRefs from by decide]

/-- What rides beside the all-reduce: the table and the result, and what the kernel will need. -/
def Rest (c : Dev nD) : sProp (MM F) :=
  iprop(StableHlo.held (c : Thread nD τ) otherRefs (V₀ m c) ∗ (∃ r, prngReg c r) ∗ Tk m c ∗ invsA m)

/-- The agreement on the ids, @main's first statement. -/
def agree : Pipeline.HostSeg (Ix := ℕ) (Name := ℕ) (U := UU) (Lvl := ℕ) (pcfgs (F := F)) defs₀ 𝒱₀ L lv :=
  collSeg0 EA 𝒱₀ L lv (V₀ m) (fun c => K (I m) c) 1 1 2 3 2 (hbar m) (hrecv m) (hsend m) (Rest m)

variable {m}

/-- @main as the list of the two. -/
def segs (hI : InTable m) : List (Pipeline.Seg (pcfgs (F := F)) adm (pdats m) 0 defs₀ 𝒱₀ L lv) := [.host (agree m), .region (region hI)]

theorem main_eq (hI : InTable m) (c : Dev nD) : main (F := F) c = Pipeline.Seg.run (segs hI) :=
  main_segs adm (pdats m) 0 𝒱₀ L lv (agree m) (region hI) rfl c

/-! ## Between the segments -/

/-- The all-reduce's exit is the kernel's entry. -/
theorem agree_region (hI : InTable m) (c : Dev nD) : (agree m).post c ⊢ (region hI).pre c := by
  show iprop(StableHlo.held (c : Thread nD τ) (ar0 (F := F)).siteRefs (V₁ m c) ∗ (ar0 (F := F)).ghostAfter EA c 0
      ∗ (∃ W, owes (c : Thread nD τ) (K (I m) c) W) ∗ Rest m c)
    ⊢ iprop(StableHlo.held (c : Thread nD τ) (Pipeline.arrRefs (τ := τ) spec0) (V₁ m c) ∗ (∃ r, prngReg c r)
      ∗ (StableHlo.held (c : Thread nD τ) tableRef (V₁ m c) ∗ passing m c) ∗ Tk m c ∗ ∃ Wd, owes (c : Thread nD τ) (0 + K (I m) c) Wd)
  unfold Rest passing
  rw [site_eq, held_site, held_others, held_windows, held_table, V₁_arg0, V₁_table, zero_add,
    show V₁ m c main_v2 = V₀ m c main_v2 from (ar0 (F := F)).after₀_off_siteRefs (V₀ m) c (by rw [mem_site]; decide)]
  iintro ⟨⟨Hv1, Ha0, -, -⟩, Hgh, HO, ⟨Ha1, Hv2⟩, Hp, Htk, Hi⟩
  isplitl [Hv1 Hv2]; · isplitl [Hv1] <;> iassumption
  isplitl [Hp]; · iexact Hp
  isplitl [Ha1 Ha0 Hi Hgh]
  · isplitl [Ha1]; · iexact Ha1
    isplitl [Ha0]; · iexact Ha0
    isplitl [Hi] <;> iassumption
  isplitl [Htk]; · iexact Htk
  iexact HO

variable (m)

/-- At the end. -/
abbrev Tₙ (c : Dev nD) : sProp (MM F) :=
  iprop((pl c main_v2 (rows m c) ∗ pl c main_arg1 (T m c) ∗ pl c main_arg0 (m ((c : Thread nD τ).loc main_arg0)))
    ∗ (invsA m ∗ (ar0 (F := F)).ghostAfter EA c 0) ∗ semVal (barCell c) 0)

variable {m}

theorem region_end (hI : InTable m) (c : Dev nD) :
    (region hI).post c ⊢ iprop(Tₙ m c ∗ ∃ W, owes (c : Thread nD τ) (0 : CellTallies nD τ sig ℕ) W) := by
  show iprop(StableHlo.held (c : Thread nD τ) (Pipeline.arrRefs (τ := τ) spec0) (V₂ m c) ∗ (∃ r, prngReg c r)
      ∗ (StableHlo.held (c : Thread nD τ) tableRef (V₂ m c) ∗ passing m c) ∗ Yk c ∗ ∃ Wd, owes (c : Thread nD τ) (0 : CellTallies nD τ sig ℕ) Wd) ⊢ _
  unfold passing Yk
  rw [held_windows, held_table, V₂_rows, V₂_of_ne m c main_arg1 (by decide), V₁_table]
  iintro ⟨⟨-, Hv2⟩, -, ⟨Ha1, Ha0, Hi, Hgh⟩, Hb, HO⟩
  isplitr [HO]
  · isplitl [Hv2 Ha1 Ha0]
    · isplitl [Hv2]; · iexact Hv2
      isplitl [Ha1] <;> iassumption
    isplitl [Hi Hgh]; · isplitl [Hi] <;> iassumption
    iexact Hb
  iexact HO

/-! ## The launch -/

/-- The all-reduce's launch element, and the exchange's. -/
def uA : Sites.UA0 := initOf (ar0 (F := F)).cells (AllReduce.Dat.once (Ix := ℕ) (Name := ℕ) (U := UU) (Lvl := ℕ) (ar0 (F := F)) (V₀ m)).launchToks
def uT : UT := launchOf barCells scCells talkToks

variable (m) in
/-- The launch element. -/
def u₀ : UU :=
  (initOf (Pipeline.cells (Pipeline.pin (pcfgs (F := F)) adm) cellOf_inj) (Pipeline.launchToks (Pipeline.pin (pcfgs (F := F)) adm) cellOf_inj),
    (uA (m := m), uT))

theorem devs_split {Φ Ψ : Dev nD → sProp (MM F)} :
    bigSep Finset.univ (fun c => iprop(Φ c ∗ Ψ c)) ⊢ iprop(bigSep Finset.univ Φ ∗ bigSep Finset.univ Ψ) := Entails.of_eq (bigSep_sep' _ _ _)
theorem devs_join {Φ Ψ : Dev nD → sProp (MM F)} :
    iprop(bigSep Finset.univ Φ ∗ bigSep Finset.univ Ψ) ⊢ bigSep Finset.univ (fun c => iprop(Φ c ∗ Ψ c)) := Entails.of_eq (bigSep_sep' _ _ _).symm

/-- A resource dealt to one device. -/
def onDev (c₀ : Dev nD) (X : sProp (MM F)) (c : Dev nD) : sProp (MM F) := if c = c₀ then X else iprop(emp)
theorem bigSep_onDev (c₀ : Dev nD) (X : sProp (MM F)) : bigSep Finset.univ (onDev c₀ X) = X := by
  rw [bigSep_univ_at _ c₀, bigSep_congr (s := Finset.univ.erase c₀) (Ψ := fun _ => (BI.emp : sProp (MM F)))
      fun c hc => by unfold onDev; rw [if_neg (Finset.ne_of_mem_erase hc)]; rfl, BI.bigSep_emp_const]
  unfold onDev; rw [if_pos rfl]
  exact BI.equiv_iff.mp sep_emp

variable (m) in
/-- Both elements, held by device 0 until they are dealt. -/
def parked : sProp (MM F) := iprop(BI.own (EA (uA (m := m))) ∗ BI.own (ET uT))

variable (m) in
/-- The first thread state. -/
abbrev T₀ (c : Dev nD) : sProp (MM F) := (agree m).pre c

variable (m) in
/-- A device's share that is no ghost state. -/
def bundle (c : Dev nD) : sProp (MM F) :=
  iprop(StableHlo.held (c : Thread nD τ) (Pipeline.ucRefs τ sig) (V₀ m c)
    ∗ (cred (tallyAt (barCell c) 4 1) ∗ cred (tallyAt (recvCell c) 5 ((Own (I m) (pr c)).card * N)))
    ∗ owes (c : Thread nD τ) (O₀ m c) ∅ ∗ ∃ r, prngReg c r)

variable (m) in
/-- What rides to the all-reduce. -/
abbrev ridesA (c : Dev nD) : sProp (MM F) := (AllReduce.Dat.once (U := UU) (ar0 (F := F)) (V₀ m)).rides EA c 1 2

theorem T₀_intro (κ : GSem nD τ sig → ℕ) (c : Dev nD) : iprop(records m κ ∗ (linear m c ∗ ridesA m c ∗ bundle m c)) ⊢ T₀ m c := by
  show _ ⊢ iprop(StableHlo.held (c : Thread nD τ) (ar0 (F := F)).siteRefs (V₀ m c) ∗ ridesA m c
      ∗ (∃ W, owes (c : Thread nD τ) (K (I m) c + (ar0 (F := F)).due c 1 2) W) ∗ Rest m c)
  unfold bundle Rest Tk
  rw [held_all, site_eq]
  iintro ⟨#HR, Hl, Hrg, ⟨Hs, Ho⟩, ⟨H1, HN⟩, HO, Hp⟩
  ihave #Hi := (show ridesA m c ⊢ invsA m from by
    unfold ridesA AllReduce.Dat.rides; iintro ⟨Hi, -⟩; iexact Hi) $$ Hrg
  isplitl [Hs]; · iexact Hs
  isplitl [Hrg]; · iexact Hrg
  isplitl [HO]; · iexists ∅; iexact HO
  isplitl [Ho]; · iexact Ho
  isplitl [Hp]; · iexact Hp
  isplitl [Hl H1 HN]
  · isplitl [Hl]
    · iapply (ghost_intro m κ c)
      isplitr; · iexact HR
      iexact Hl
    isplitl [H1] <;> iassumption
  iexact Hi

variable (m) in
/-- The global step of the launch. -/
theorem init :
    iprop((bigSep Finset.univ fun c : Dev nD => iprop(unscopedBufs c (fun b => m ((c : Thread nD τ).loc b)) ∗ unscopedSems0 c
          ∗ owes (c : Thread nD τ) (O₀ m c) ∅ ∗ Pipeline.launchCred (O₀ m) c ∗ prngReg c (ρ c) ∗ onDev 0 (parked m) c)) ∗ levAts L lv)
      ⊢ (|={Set.univ}=> bigSep Finset.univ (T₀ m) : sProp (MM F)) := by
  have hcore (c : Dev nD) : iprop(unscopedBufs c (fun b => m ((c : Thread nD τ).loc b)) ∗ unscopedSems0 c
        ∗ owes (c : Thread nD τ) (O₀ m c) ∅ ∗ Pipeline.launchCred (O₀ m) c ∗ prngReg c (ρ c) ∗ onDev 0 (parked m) c)
      ⊢ (iprop(bundle m c ∗ (semVal (barCell c) 0 ∗ (((semVal ((ar0 (F := F)).barrierCell c) 0 ∗ semVal ((ar0 (F := F)).recvCell c) 0 ∗ semVal ((ar0 (F := F)).sendCell c) 0)
          ∗ Pipeline.launchCred (fun d => (ar0 (F := F)).due d 1 2) c) ∗ onDev 0 (parked m) c))) : sProp (MM F)) := by
    rw [show unscopedBufs c (fun b => m ((c : Thread nD τ).loc b)) = StableHlo.held (c : Thread nD τ) (Pipeline.ucRefs τ sig) (V₀ m c)
      from Pipeline.unscopedBufs_held c (V₀ m c), Sites.sems_eq]
    unfold bundle
    iintro ⟨Hh, ⟨Hs1, Hs2, Hs3, Hb⟩, HO, Hcr, Hp, HG⟩
    ihave Hc := (creds m c) $$ Hcr
    icases Hc with ⟨HK, Hd⟩
    isplitl [Hh HK HO Hp]
    · isplitl [Hh]; · iexact Hh
      isplitl [HK]; · iexact HK
      isplitl [HO]; · iexact HO
      iexists (ρ c); iexact Hp
    isplitl [Hb]; · iexact Hb
    isplitr [HG]
    · isplitr [Hd]
      · isplitl [Hs1]; · iexact Hs1
        isplitl [Hs2] <;> iassumption
      iexact Hd
    iexact HG
  have hv : bigSep Finset.univ (fun c : Dev nD => (semVal (barCell c) 0 : sProp (MM F))) ⊢ bigSep barCells (fun g => (semVal g 0 : sProp (MM F))) :=
    Entails.of_eq (bigSep_map (s := Finset.univ) barEmb (Φ := fun g : GSem nD τ sig => (semVal g 0 : sProp (MM F)))).symm
  have hat : bigSep barCells (fun g => (atPos ET g 0 ∅ 0 : sProp (MM F))) ⊢ bigSep Finset.univ (fun c : Dev nD => (atPos ET (barCell c) 0 ∅ 0 : sProp (MM F))) :=
    Entails.of_eq (bigSep_map (s := Finset.univ) barEmb (Φ := fun g : GSem nD τ sig => (atPos ET g 0 ∅ 0 : sProp (MM F))))
  have hop : bigSep scCells (fun g => (openTok ET g : sProp (MM F)))
      ⊢ bigSep Finset.univ (fun c : Dev nD => iprop(openTok ET (gCell c) ∗ openTok ET (sendCell c) ∗ openTok ET (recvCell c))) :=
    Entails.of_eq (by
      rw [bigSep_map, bigSep_univ_prod]
      exact bigSep_congr fun c _ => bigSep_three (fun k : Fin 3 => (openTok ET ((c : Thread nD τ), osem k) : sProp (MM F))))
  iintro ⟨H, -⟩
  ihave H' := (show (bigSep Finset.univ fun c : Dev nD => iprop(unscopedBufs c (fun b => m ((c : Thread nD τ).loc b)) ∗ unscopedSems0 c
          ∗ owes (c : Thread nD τ) (O₀ m c) ∅ ∗ Pipeline.launchCred (O₀ m) c ∗ prngReg c (ρ c) ∗ onDev 0 (parked m) c))
      ⊢ (bigSep Finset.univ fun c : Dev nD => iprop(bundle m c ∗ (semVal (barCell c) 0 ∗ (((semVal ((ar0 (F := F)).barrierCell c) 0 ∗ semVal ((ar0 (F := F)).recvCell c) 0 ∗ semVal ((ar0 (F := F)).sendCell c) 0)
          ∗ Pipeline.launchCred (fun d => (ar0 (F := F)).due d 1 2) c) ∗ onDev 0 (parked m) c))) : sProp (MM F)) from bigSep_mono fun c _ => hcore c) $$ H
  ihave H2 := devs_split $$ H'; icases H2 with ⟨HB, H3⟩
  ihave H4 := devs_split $$ H3; icases H4 with ⟨Hv, H5⟩
  ihave H6 := devs_split $$ H5; icases H6 with ⟨HA, HG⟩
  ihave Hu := (show bigSep Finset.univ (onDev 0 (parked m)) ⊢ parked m from Entails.of_eq (bigSep_onDev (F := F) 0 (parked m))) $$ HG
  unfold parked uA uT
  icases Hu with ⟨HuA, HuT⟩
  imod (AllReduce.Dat.fund_rides EA (AllReduce.Dat.once (U := UU) (ar0 (F := F)) (V₀ m)) 1 2 (Es := Set.univ)) $$ [HA HuA] with Hrg
  · isplitl [HA]; · iexact HA
    iexact HuA
  imod (Rounds.fund_launch ET (talkRd (I m) (T m)) disjoint_cells (fun g _ h => h) talkToks) $$ [Hv HuT] with ⟨%κ, -, #Hinv, #Hr, Hat, Hopen, Htok⟩
  · isplitl [Hv]
    · iapply hv $$ Hv
    · iexact HuT
  imodintro
  iapply (bigSep_with_persistent (R := records m κ) (Φ := fun c => iprop(linear m c ∗ ridesA m c ∗ bundle m c)) fun c _ => T₀_intro κ c)
  isplitr
  · unfold records
    isplitr; · iexact Hinv
    iexact Hr
  iapply devs_join
  isplitr [HB Hrg]
  · unfold linear
    iapply devs_join; isplitl [Hat]; · iapply hat $$ Hat
    iapply devs_join; isplitl [Hopen]; · iapply hop $$ Hopen
    iapply (toks_around m)
    iapply (Entails.of_eq (toks_eq (F := F))) $$ Htok
  iapply devs_join
  isplitl [Hrg]; · iexact Hrg
  iexact HB

theorem unscoped_eq : ∀ sm : SemLoc sig, sm.isScoped .tc = false →
    sm = .reg ar0_barrier ∨ sm = .dma ar0_recv ∨ sm = .dma ar0_send ∨ sm = .reg barrier0 := by decide

set_option backward.isDefEq.respectTransparency.types false in
/-- THE RUN: at any float values, from any memory with zero counters whose ids are in the table, every weakly fair execution of
    @main on the sixteen devices terminates, and every final state has each device's result holding its rows, its arguments as
    they were, and every counter at zero. -/
theorem run_main (hI : InTable m) : θ_run defs (onTc (τ := τ) (main (F := F))) (s₀ m ρ)
    (fun r => (∀ c : Dev nD, r.2.mem ((c : Thread nD τ).loc main_v2) = rows m c
        ∧ r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  Pipeline.θ_run_regions_kit_sems (pcfgs (F := F)) adm (pdats m) 0 cellOf_inj EP defs₀ 𝒱₀ L lv m ρ main (segs hI)
    (fun c Q => by rw [main_eq hI c])
    (by simp only [segs, Pipeline.Seg.pipes_host, Pipeline.Seg.pipes_region, Pipeline.Seg.pipes_nil]; decide)
    (O₀ := O₀ m) (hL := L_of_ne) (G := onDev 0 (parked m)) (u₀ := u₀ m)
    (hu₀ := by
      unfold u₀
      iintro Hu
      ihave H := (ownU_pair _ _) $$ Hu
      icases H with ⟨HP, HX⟩
      imodintro
      isplitl [HP]; · iexact HP
      rw [bigSep_onDev]; unfold parked
      iapply (own_pair_emb EC _ _) $$ HX)
    (T₀ := T₀ m) (Tₙ := Tₙ m)
    (hch := ⟨fun c => .rfl, agree_region hI, region_end hI⟩)
    (hinit := init m ρ)
    (QY := fun c s => (s.mem ((c : Thread nD τ).loc main_v2) = rows m c
      ∧ s.mem ((c : Thread nD τ).loc main_arg0) = m ((c : Thread nD τ).loc main_arg0)
      ∧ s.mem ((c : Thread nD τ).loc main_arg1) = m ((c : Thread nD τ).loc main_arg1))
      ∧ (s.sem ((ar0 (F := F)).barrierCell c) = 0 ∧ s.sem ((ar0 (F := F)).recvCell c) = 0 ∧ s.sem ((ar0 (F := F)).sendCell c) = 0)
      ∧ s.sem (barCell c) = 0)
    (hfin := fun c s' => by
      iintro ⟨⟨⟨H2, H1, H0⟩, He, Hb⟩, HSI⟩
      icombine HSI H2 gives %h2
      icombine HSI H1 gives %h1
      icombine HSI H0 gives %h0
      icombine HSI Hb gives %hb
      imod ((AllReduce.Dat.once (U := UU) (ar0 (F := F)) (V₀ m)).ghostAfter_read EA c (k := 0) le_rfl s') $$ [He HSI] with ⟨%hz, HSI⟩
      · isplitl [He] <;> iassumption
      imodintro
      isplitr
      · ipureintro
        exact ⟨⟨Buf.eq_of_forall_mem_univ h2, Buf.eq_of_forall_mem_univ h0, Buf.eq_of_forall_mem_univ h1⟩, hz, by simpa using hb⟩
      iexact HSI)
    (hQ := fun s h hs => ⟨fun c => (h c).1, sem_eq_zero hs fun c sm hsm => by
      rcases unscoped_eq sm hsm with rfl | rfl | rfl | rfl
      exacts [(h c).2.1.1, (h c).2.1.2.1, (h c).2.1.2.2, (h c).2.2]⟩)

end Cert.Embed
end
-- ==== Proof.Ref.lean ====
/-
  The reference's rows, and the kernel's against them: row `k` of both is row `ids[k]` of the whole table.
-/
module

public import proofs.«01_k».proof.Proof.Run
public import proofs.«01_k».proof.Proof.Gen.ReferenceIdeal
public import proofs.«01_k».proof.Proof.Gen.Pre_ids_in_table_Kernel
public import Idealize.ShloMosaic.Lib.Layout
public import Idealize.ShloMosaic.Lib.ReduceAll
public import Idealize.ShloMosaic.Lib.ValueIdxCore

@[expose] public section

noncomputable section

namespace Cert.Embed

open Cert.KernelIdeal Cert.KernelIdeal.Gen
open Idealize.ShloMosaic
open Idealize.ShloMosaic.TcCoe

variable {F : FTy → Type} [FloatOps F]

/-! ## The precondition -/

/-- A word that compares signed at least 0 and below 16384 is a number below 16384. -/
theorem range_of_compares (w : BitVec 32)
    (h : IntOp.andi (IntOp.cmpi .sge w 0#32) (IntOp.cmpi .slt w 16384#32) = 1#1) : w.toNat < 16384 := by
  have h' : BitVec.ofBool (BitVec.sle 0#32 w) &&& BitVec.ofBool (BitVec.slt w 16384#32) = 1#1 := h
  have h₁ : BitVec.sle 0#32 w = true := by
    cases e : BitVec.sle 0#32 w
    · rw [e] at h'; revert h'; cases BitVec.slt w 16384#32 <;> decide
    · rfl
  have h₂ : BitVec.slt w 16384#32 = true := by
    cases e : BitVec.slt w 16384#32
    · rw [e] at h'; revert h'; cases BitVec.sle 0#32 w <;> decide
    · rfl
  rw [BitVec.sle_iff_toInt_le] at h₁
  rw [BitVec.slt_iff_toInt_lt] at h₂
  have e₀ : (0#32).toInt = 0 := by decide
  have e₁ : (16384#32).toInt = 16384 := by decide
  rw [e₀] at h₁; rw [e₁] at h₂
  rw [BitVec.toInt_eq_toNat_cond] at h₁ h₂
  have := w.isLt
  split at h₁ <;> split at h₂ <;> omega

instance : Subsingleton Cert.Pre_ids_in_table_Kernel.S_.Idx := ⟨fun a b => funext fun i => i.elim0⟩

/-- What the precondition says of one device's ids. -/
theorem range_of_fn (ids : S1024.Idx → BitVec 32) (E : S8192x1024.Idx → F .f32)
    (h : Cert.Pre_ids_in_table_Kernel.fn (F := F) ids E = fun _ => 1#1) (i : S1024.Idx) : (ids i).toNat < 16384 := by
  refine range_of_compares (ids i) ?_
  exact Host.reduce_andi_all _ _ _ _ (fun a => a.elim0) (congrFun h _) i

/-! ## The reference's gather -/

abbrev gdims : GatherDims Cert.ReferenceIdeal.S16384x1024 Cert.ReferenceIdeal.S1024x1 Cert.ReferenceIdeal.S1024x1024 :=
  Cert.ReferenceIdeal.gather_S16384x1024_S1024x1_S1024x1024_1_0_n_n_0_1_11024

/-- Element (`r`, `j`) of the whole table. -/
abbrev whole (r : Fin 16384) (j : Fin 1024) : Cert.ReferenceIdeal.S16384x1024.Idx := fun | 0 => r | 1 => j

/-- Where the start index of the gather's row `k` lies. -/
abbrev colIdx (y : S1024x1024.Idx) : Cert.ReferenceIdeal.S1024x1.Idx := fun | 0 => y 0 | 1 => (0 : Fin 1)

theorem gather_rows {α : Type} (x : Cert.ReferenceIdeal.S16384x1024.Idx → α) (idx : IVec Cert.ReferenceIdeal.S1024x1 32)
    (y : S1024x1024.Idx) (h : (idx (colIdx y)).toInt.toNat < 16384) :
    Host.gather gdims x idx y = x (whole ⟨(idx (colIdx y)).toInt.toNat, h⟩ (y 1)) := by
  unfold Host.gather
  congr 1
  funext a
  refine Fin.ext ?_
  show gdims.start y idx a + gdims.batchCoord y a + gdims.offCoord y a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · have hm : (0 : Fin 2) ∈ gdims.startIndexMap := List.mem_singleton.mpr rfl
    rw [GatherDims.offCoord_eq_zero _ _ _ (fun h => ((GatherDims.mem_sKept _ _).mp h).1 (List.mem_singleton.mpr rfl))]
    unfold GatherDims.start
    rw [dif_pos hm]
    have hsi : gdims.siIdx y ⟨List.idxOf (0 : Fin 2) gdims.startIndexMap, List.idxOf_lt_length_iff.2 hm⟩ = colIdx y := by
      funext b
      refine Fin.ext ?_
      match b with
      | ⟨0, _⟩ => rfl
      | ⟨1, _⟩ => rfl
    rw [hsi]
    show min (idx (colIdx y)).toInt.toNat (16384 - 1) + 0 + 0 = (idx (colIdx y)).toInt.toNat
    omega
  · have hm : (1 : Fin 2) ∉ gdims.startIndexMap := by decide
    unfold GatherDims.start
    rw [dif_neg hm]
    show 0 + 0 + (y 1).val = (y 1).val
    omega

theorem toInt_of_small (w : BitVec 32) (h : w.toNat < 16384) : w.toInt = w.toNat := by
  rw [BitVec.toInt_eq_toNat_cond]
  split <;> omega

theorem not_neg (w : BitVec 32) (h : w.toNat < 16384) : IntOp.cmpi .slt w 0#32 ≠ 1#1 := by
  have e : BitVec.slt w 0#32 = false := by
    rw [Bool.eq_false_iff]
    intro hs
    rw [BitVec.slt_iff_toInt_lt, toInt_of_small w h] at hs
    have e₀ : (0#32).toInt = 0 := by decide
    rw [e₀] at hs
    omega
  show BitVec.ofBool (BitVec.slt w 0#32) ≠ 1#1
  rw [e]; decide

/-- The reference's start indices: each id, wrapped where it is negative. -/
def starts (ids : S1024.Idx → BitVec 32) : IVec Cert.ReferenceIdeal.S1024x1 32 :=
  broadcastInDim Cert.ReferenceIdeal.S1024x1 ![0] Cert.ReferenceIdeal.Gen.bcast_S1024_S1024x1_0
    (select (cmpi .slt ids (broadcastInDim Cert.ReferenceIdeal.S1024 ![] Cert.ReferenceIdeal.Gen.bcast_S_S1024 (constantI Cert.ReferenceIdeal.S_ 32 0#32)))
      (addi ids (broadcastInDim Cert.ReferenceIdeal.S1024 ![] Cert.ReferenceIdeal.Gen.bcast_S_S1024 (constantI Cert.ReferenceIdeal.S_ 32 16384#32))) ids)

theorem starts_apply (ids : S1024.Idx → BitVec 32) (h : ∀ i, (ids i).toNat < 16384) (y : S1024x1024.Idx) :
    starts ids (colIdx y) = ids (sx (y 0).val) := by
  have e : starts ids (colIdx y) = Scalar.select (IntOp.cmpi .slt (ids (sx (y 0).val)) 0#32)
      (IntOp.addi (ids (sx (y 0).val)) 16384#32) (ids (sx (y 0).val)) := by
    have hs : sx (y 0).val = (fun a => match a with | ⟨0, _⟩ => (⟨(y 0).val, (y 0).isLt⟩ : Fin 1024) : S1024.Idx) := by
      funext a
      match a with
      | ⟨0, _⟩ => exact Fin.ext (sx_val _ (y 0).isLt)
    rw [hs]
    have hj : (fun a : Fin 1 => if h1 : S1024.size a = 1 then (⟨0, by omega⟩ : Fin (S1024.size a))
        else ⟨(colIdx y (![0] a)).val, by fin_cases a; exact (y 0).isLt⟩)
        = (fun a => match a with | ⟨0, _⟩ => (⟨(y 0).val, (y 0).isLt⟩ : Fin 1024) : S1024.Idx) := by
      funext a
      match a with
      | ⟨0, _⟩ => rfl
    rw [← hj]
    rfl
  rw [e]
  unfold Scalar.select
  exact if_neg (not_neg _ (h _))

/-- The reference's result, at an element: the row of the whole table that the id names. -/
theorem gather_starts {α : Type} (E : Cert.ReferenceIdeal.S16384x1024.Idx → α) (ids : S1024.Idx → BitVec 32)
    (h : ∀ i, (ids i).toNat < 16384) (y : S1024x1024.Idx) :
    Host.gather gdims E (starts ids) y = E (whole ⟨(ids (sx (y 0).val)).toNat, h _⟩ (y 1)) := by
  have e : (starts ids (colIdx y)).toInt.toNat = (ids (sx (y 0).val)).toNat := by
    rw [starts_apply ids h y, toInt_of_small _ (h _)]; rfl
  rw [gather_rows E (starts ids) y (by rw [e]; exact h _)]
  congr 2
  exact Fin.ext e

/-! ## The kernel's rows -/

variable (m : (ℓ : Loc nD τ sig) → Buf (Elt F) ℓ)

theorem owner_owns (hI : InTable m) (c : Dev nD) (k : ℕ) :
    mine (owner (I m) c k) (I m (owner (I m) c k) k) := by
  unfold owner
  split
  · assumption
  · rename_i h
    rw [(ids_of hI).pair c]
    exact (mine_pr c _ ((ids_of hI).range c k)).mpr h

theorem meshBlock_half (c : Dev nD) : ((Layout.meshBlock [2, 2, 4] ![[1], []] c) (0 : Fin 2)).val = half c := by
  revert c; decide

/-- Each device's rows are those of the whole table, where every device is given the same ids and its half. -/
theorem rows_whole (hI : InTable m) (X : S1024.Idx → BitVec 32) (hX : ∀ c, given m c = X) (hr : ∀ i, (X i).toNat < 16384)
    (E : Cert.ReferenceIdeal.S16384x1024.Idx → F .f32)
    (hE : ∀ c : Dev nD, T m c = Layout.blockN ⟨2, ![8192, 1024]⟩ ⟨2, ![16384, 1024]⟩ (Layout.meshBlock [2, 2, 4] ![[1], []] c) E)
    (c : Dev nD) (y : S1024x1024.Idx) : rows m c y = E (whole ⟨(X (sx (y 0).val)).toNat, hr _⟩ (y 1)) := by
  have ho := owner_owns m hI c (y 0).val
  show T m (owner (I m) c (y 0).val) (tix (rowOf (I m) (owner (I m) c (y 0).val) (y 0).val) (y 1)) = _
  generalize owner (I m) c (y 0).val = o at ho ⊢
  have hi : I m o (y 0).val = X (sx (y 0).val) := by unfold I; rw [agreed_same m X hX]
  have hv := rowOf_val (I m) o _ ho
  have hw := row_of_mine o _ ((ids_of hI).range o _) ho
  rw [hi] at hv hw
  rw [hE o, Layout.blockN_apply]
  congr 1
  funext a
  refine Fin.ext ?_
  rw [Layout.TilesN.idx_val]
  match a with
  | ⟨0, _⟩ =>
    show ((Layout.meshBlock [2, 2, 4] ![[1], []] o) (0 : Fin 2)).val * 8192 + (rowOf (I m) o (y 0).val).val = (X (sx (y 0).val)).toNat
    rw [meshBlock_half, hv]; omega
  | ⟨1, _⟩ =>
    show 0 * 1024 + (y 1).val = (y 1).val
    omega

end Cert.Embed

end
-- ==== Proof.lean ====
/-
  The claims: the frames of the kernel, of its ideal reading and of the reference; and the kernel's rows equal to the
  reference's. One run of the kernel, over any float values (Proof/Run.lean), gives both of its frames and its rows.
-/
module

public import proofs.«01_k».proof.Defs
public import proofs.«01_k».proof.Proof.Ref
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_ids_in_table_Kernel
public import proofs.«01_k».proof.Proof.Gen.Pre_ids_in_table_ReferenceIdeal
public import Idealize.ShloMosaic.Lib.Quiescent

@[expose] public section

noncomputable section

namespace Cert.Proof

open Idealize.ShloMosaic Idealize.ShloMosaic.TcCoe Idealize.SL.Sem

set_option smartUnfolding false in
/-- No operation is rewritten, so what holds of the ideal text's runs over bit patterns holds of the kernel's. -/
theorem of_ideal_text {s : MemSt Cert.Kernel.nD Cert.Kernel.τ Cert.Kernel.sig (Elt Bits)}
    {Q : PUnit × MemSt Cert.Kernel.nD Cert.Kernel.τ Cert.Kernel.sig (Elt Bits) → Prop}
    (h : θ_run (Cert.KernelIdeal.defs (F := Bits)) (onTc (τ := Cert.KernelIdeal.τ) (Cert.KernelIdeal.main (F := Bits))) s Q) :
    θ_run (Cert.Kernel.defs (F := Bits)) (onTc (τ := Cert.Kernel.τ) (Cert.Kernel.main (F := Bits))) s Q := h

theorem frame_kernel : Cert.quiescent_Kernel :=
  fun m g hp => of_ideal_text <| (θ_run Cert.KernelIdeal.defs _ _).mono
    (fun _ h => ⟨fun c => ⟨(h.1 c).2.1, (h.1 c).2.2⟩, h.2⟩)
    (Cert.Embed.run_main (F := Bits) (m := m) g fun c i => Cert.Embed.range_of_fn _ _ (hp c) i)

theorem frame_ideal : Cert.quiescent_KernelIdeal :=
  fun m g hp => (θ_run Cert.KernelIdeal.defs _ _).mono
    (fun _ h => ⟨fun c => ⟨(h.1 c).2.1, (h.1 c).2.2⟩, h.2⟩)
    (Cert.Embed.run_main (F := Ideal) (m := m) g fun c i => Cert.Embed.range_of_fn _ _ (hp c) i)

theorem frame_reference : Cert.quiescent_ReferenceIdeal :=
  fun m g _ => (θ_run Cert.ReferenceIdeal.defs _ _).mono
    (fun r h => ⟨fun c => (h c).2, sem_eq_zero_of_no_sems (by decide) r.2⟩)
    (Cert.ReferenceIdeal.Value.run m g)

theorem value : Cert.algebraic_KernelIdeal_ReferenceIdeal := by
  intro m g m' g' hp hargs
  have hI : Cert.Embed.InTable m := fun c i => Cert.Embed.range_of_fn _ _ (hp c) i
  have hX : ∀ c, Cert.Embed.given m c = m' (((0 : Dev Cert.ReferenceIdeal.nD).tc : Thread Cert.ReferenceIdeal.nD Cert.ReferenceIdeal.τ).loc Cert.ReferenceIdeal.main_arg0) :=
    fun c => (hargs c).1
  have hr : ∀ i, ((m' (((0 : Dev Cert.ReferenceIdeal.nD).tc : Thread Cert.ReferenceIdeal.nD Cert.ReferenceIdeal.τ).loc Cert.ReferenceIdeal.main_arg0) : Cert.KernelIdeal.S1024.Idx → BitVec 32) i).toNat < 16384 := by
    intro i
    have := hI 0 i
    rw [hX 0] at this
    exact this
  refine ⟨_, (θ_run Cert.KernelIdeal.defs _ _).mono (fun _ h c => ⟨(h.1 c).1.trans ?_, (h.1 c).2⟩) (Cert.Embed.run_main (F := Ideal) (m := m) g hI),
    (θ_run Cert.ReferenceIdeal.defs _ _).mono (fun _ h => h 0) (Cert.ReferenceIdeal.Value.run m' g')⟩
  funext y
  exact (Cert.Embed.rows_whole m hI _ hX hr _ (fun c => (hargs c).2) c y).trans (Cert.Embed.gather_starts _ _ hr y).symm

theorem claim : Cert.Claim :=
  ⟨Cert.Kernel.Gen.facts, Cert.KernelIdeal.Gen.facts, Cert.ReferenceIdeal.Gen.facts, Cert.Pre_ids_in_table_Kernel.Gen.facts,
    Cert.Pre_ids_in_table_ReferenceIdeal.Gen.facts, frame_kernel, frame_ideal, frame_reference,
    fun m g _ => frame_reference m g trivial, trivial, value⟩

end Cert.Proof

end
